-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_nucleus_only_pre_finite [hKernelIdeal : Cert.KernelIdeal.Facts] [hReferenceIdeal : Cert.ReferenceIdeal.Facts] [hPre_finite : Cert.Pre_finite.Facts] [hOn_nucleus_only : Cert.On_nucleus_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![16]⟩ : Shape).Idx, (Cert.On_nucleus_only.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v18) i = v0 c i)
          ∧ (∀ i : (⟨2, ![16, 1000000]⟩ : Shape).Idx, (Cert.On_nucleus_only.fn (F := Ideal) (m ((c.tc : Thread Cert.KernelIdeal.nD Cert.KernelIdeal.τ).loc Cert.KernelIdeal.main_arg0))).2 i = 1#1 → r.2.mem ((c.tc : Thread Cert.KernelIdeal.nD Cert.KernelIdeal.τ).loc Cert.KernelIdeal.main_v16) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![16]⟩ : Shape).Idx, (Cert.On_nucleus_only.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v43) i = v0 c i)
          ∧ (∀ i : (⟨2, ![16, 1000000]⟩ : Shape).Idx, (Cert.On_nucleus_only.fn (F := Ideal) (m ((c.tc : Thread Cert.KernelIdeal.nD Cert.KernelIdeal.τ).loc Cert.KernelIdeal.main_arg0))).2 i = 1#1 → r.2.mem ((c.tc : Thread Cert.ReferenceIdeal.nD Cert.ReferenceIdeal.τ).loc Cert.ReferenceIdeal.main_v26) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts) (hOn_nucleus_only : Cert.On_nucleus_only.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_nucleus_only_pre_finite (hKernelIdeal := hKernelIdeal) (hReferenceIdeal := hReferenceIdeal) (hPre_finite := hPre_finite) (hOn_nucleus_only := hOn_nucleus_only)
-- ==== On_nucleus_only.lean ====
abbrev S16x1000000 : Shape := ⟨2, ![16, 1000000]⟩
abbrev S_ : Shape := ⟨0, ![]⟩
abbrev S16 : Shape := ⟨1, ![16]⟩

class Facts : Prop where
  bcast_S_S16 : S_.BroadcastsInDim S16 (![] : Fin 0 → Fin S16.rank)
  bcast_S_S16x1000000 : S_.BroadcastsInDim S16x1000000 (![] : Fin 0 → Fin S16x1000000.rank)

variable [Facts]

def fn {F : FTy → Type} [FloatOps F] (main_arg0 : FVec F S16x1000000 .f32) : IVec S16 1 × IVec S16x1000000 1 :=
  let main_c : IVec S_ 1 := constantI S_ 1 0#1
  let main_v0 : IVec S16 1 := broadcastInDim S16 ![] bcast_S_S16 main_c
  let main_c_0 : IVec S_ 1 := constantI S_ 1 1#1
  let main_v1 : IVec S16x1000000 1 := broadcastInDim S16x1000000 ![] bcast_S_S16x1000000 main_c_0
  (main_v0, main_v1)
-- ==== Pre_finite.lean ====
abbrev S16x1000000 : Shape := ⟨2, ![16, 1000000]⟩
abbrev S_ : Shape := ⟨0, ![]⟩

class Facts : Prop where
  bcast_S_S16x1000000 : S_.BroadcastsInDim S16x1000000 (![] : Fin 0 → Fin S16x1000000.rank)

variable [Facts]

def fn {F : FTy → Type} [FloatOps F] (main_arg0 : FVec F S16x1000000 .f32) : IVec S16x1000000 1 :=
  let main_v0 : FVec F S16x1000000 .f32 := Host.absf main_arg0
  let main_cst : FVec F S_ .f32 := constant S_ .f32 0x7F800000#32
  let main_v1 : FVec F S16x1000000 .f32 := broadcastInDim S16x1000000 ![] bcast_S_S16x1000000 main_cst
  let main_v2 : IVec S16x1000000 1 := cmpf .olt main_v0 main_v1
  main_v2
-- ==== Kernel.lean ====
abbrev S16x1000000 : Shape := ⟨2, ![16, 1000000]⟩
abbrev S_ : Shape := ⟨0, ![]⟩
abbrev S1 : Shape := ⟨1, ![1]⟩
abbrev S2 : Shape := ⟨1, ![2]⟩
abbrev S1x1 : Shape := ⟨2, ![1, 1]⟩
abbrev S16x48576 : Shape := ⟨2, ![16, 48576]⟩
abbrev S16x1048576 : Shape := ⟨2, ![16, 1048576]⟩
abbrev S16x1024x1024 : Shape := ⟨3, ![16, 1024, 1024]⟩
abbrev S16x1x1 : Shape := ⟨3, ![16, 1, 1]⟩
abbrev S1x1024x1024 : Shape := ⟨3, ![1, 1024, 1024]⟩
abbrev S1x1x1 : Shape := ⟨3, ![1, 1, 1]⟩
abbrev S8x128 : Shape := ⟨2, ![8, 128]⟩
abbrev S1024x1024 : Shape := ⟨2, ![1024, 1024]⟩
abbrev S512x2x1x1024 : Shape := ⟨4, ![512, 2, 1, 1024]⟩
abbrev S512x1x1x1024 : Shape := ⟨4, ![512, 1, 1, 1024]⟩
abbrev S512x1x1024 : Shape := ⟨3, ![512, 1, 1024]⟩
abbrev S512x1x1 : Shape := ⟨3, ![512, 1, 1]⟩
abbrev S256x2x2x1024 : Shape := ⟨4, ![256, 2, 2, 1024]⟩
abbrev S256x1x2x1024 : Shape := ⟨4, ![256, 1, 2, 1024]⟩
abbrev S256x2x1024 : Shape := ⟨3, ![256, 2, 1024]⟩
abbrev S256x1x1 : Shape := ⟨3, ![256, 1, 1]⟩
abbrev S128x2x4x1024 : Shape := ⟨4, ![128, 2, 4, 1024]⟩
abbrev S128x1x4x1024 : Shape := ⟨4, ![128, 1, 4, 1024]⟩
abbrev S128x4x1024 : Shape := ⟨3, ![128, 4, 1024]⟩
abbrev S128x1x1 : Shape := ⟨3, ![128, 1, 1]⟩
abbrev S64x2x8x1024 : Shape := ⟨4, ![64, 2, 8, 1024]⟩
abbrev S64x1x8x1024 : Shape := ⟨4, ![64, 1, 8, 1024]⟩
abbrev S64x8x1024 : Shape := ⟨3, ![64, 8, 1024]⟩
abbrev S64x1x1 : Shape := ⟨3, ![64, 1, 1]⟩
abbrev S32x2x16x1024 : Shape := ⟨4, ![32, 2, 16, 1024]⟩
abbrev S32x1x16x1024 : Shape := ⟨4, ![32, 1, 16, 1024]⟩
abbrev S32x16x1024 : Shape := ⟨3, ![32, 16, 1024]⟩
abbrev S32x1x1 : Shape := ⟨3, ![32, 1, 1]⟩
abbrev S16x2x32x1024 : Shape := ⟨4, ![16, 2, 32, 1024]⟩
abbrev S16x1x32x1024 : Shape := ⟨4, ![16, 1, 32, 1024]⟩
abbrev S16x32x1024 : Shape := ⟨3, ![16, 32, 1024]⟩
abbrev S8x2x64x1024 : Shape := ⟨4, ![8, 2, 64, 1024]⟩
abbrev S8x1x64x1024 : Shape := ⟨4, ![8, 1, 64, 1024]⟩
abbrev S8x64x1024 : Shape := ⟨3, ![8, 64, 1024]⟩
abbrev S8x1x1 : Shape := ⟨3, ![8, 1, 1]⟩
abbrev S4x2x128x1024 : Shape := ⟨4, ![4, 2, 128, 1024]⟩
abbrev S4x1x128x1024 : Shape := ⟨4, ![4, 1, 128, 1024]⟩
abbrev S4x128x1024 : Shape := ⟨3, ![4, 128, 1024]⟩
abbrev S4x1x1 : Shape := ⟨3, ![4, 1, 1]⟩
abbrev S2x2x256x1024 : Shape := ⟨4, ![2, 2, 256, 1024]⟩
abbrev S2x1x256x1024 : Shape := ⟨4, ![2, 1, 256, 1024]⟩
abbrev S2x256x1024 : Shape := ⟨3, ![2, 256, 1024]⟩
abbrev S2x1x1 : Shape := ⟨3, ![2, 1, 1]⟩
abbrev S1x2x512x1024 : Shape := ⟨4, ![1, 2, 512, 1024]⟩
abbrev S1x1x512x1024 : Shape := ⟨4, ![1, 1, 512, 1024]⟩
abbrev S1x512x1024 : Shape := ⟨3, ![1, 512, 1024]⟩
abbrev S1x1x1024 : Shape := ⟨3, ![1, 1, 1024]⟩
abbrev S1024 : Shape := ⟨1, ![1024]⟩
abbrev S1024x1 : Shape := ⟨2, ![1024, 1]⟩
abbrev S1023x1 : Shape := ⟨2, ![1023, 1]⟩
abbrev S2x1 : Shape := ⟨2, ![2, 1]⟩
abbrev S1022x1 : Shape := ⟨2, ![1022, 1]⟩
abbrev S4x1 : Shape := ⟨2, ![4, 1]⟩
abbrev S1020x1 : Shape := ⟨2, ![1020, 1]⟩
abbrev S8x1 : Shape := ⟨2, ![8, 1]⟩
abbrev S1016x1 : Shape := ⟨2, ![1016, 1]⟩
abbrev S16x1 : Shape := ⟨2, ![16, 1]⟩
abbrev S1008x1 : Shape := ⟨2, ![1008, 1]⟩
abbrev S32x1 : Shape := ⟨2, ![32, 1]⟩
abbrev S992x1 : Shape := ⟨2, ![992, 1]⟩
abbrev S64x1 : Shape := ⟨2, ![64, 1]⟩
abbrev S960x1 : Shape := ⟨2, ![960, 1]⟩
abbrev S128x1 : Shape := ⟨2, ![128, 1]⟩
abbrev S896x1 : Shape := ⟨2, ![896, 1]⟩
abbrev S256x1 : Shape := ⟨2, ![256, 1]⟩
abbrev S768x1 : Shape := ⟨2, ![768, 1]⟩
abbrev S512x1 : Shape := ⟨2, ![512, 1]⟩
abbrev S1x1024x1 : Shape := ⟨3, ![1, 1024, 1]⟩
abbrev S1x1024 : Shape := ⟨2, ![1, 1024]⟩
abbrev S1x1023 : Shape := ⟨2, ![1, 1023]⟩
abbrev S1x2 : Shape := ⟨2, ![1, 2]⟩
abbrev S1x1022 : Shape := ⟨2, ![1, 1022]⟩
abbrev S1x4 : Shape := ⟨2, ![1, 4]⟩
abbrev S1x1020 : Shape := ⟨2, ![1, 1020]⟩
abbrev S1x8 : Shape := ⟨2, ![1, 8]⟩
abbrev S1x1016 : Shape := ⟨2, ![1, 1016]⟩
abbrev S1x16 : Shape := ⟨2, ![1, 16]⟩
abbrev S1x1008 : Shape := ⟨2, ![1, 1008]⟩
abbrev S1x32 : Shape := ⟨2, ![1, 32]⟩
abbrev S1x992 : Shape := ⟨2, ![1, 992]⟩
abbrev S1x64 : Shape := ⟨2, ![1, 64]⟩
abbrev S1x960 : Shape := ⟨2, ![1, 960]⟩
abbrev S1x128 : Shape := ⟨2, ![1, 128]⟩
abbrev S1x896 : Shape := ⟨2, ![1, 896]⟩
abbrev S1x256 : Shape := ⟨2, ![1, 256]⟩
abbrev S1x768 : Shape := ⟨2, ![1, 768]⟩
abbrev S1x512 : Shape := ⟨2, ![1, 512]⟩
abbrev S16 : Shape := ⟨1, ![16]⟩

abbrev nBuf : Space → Nat
  | .hbm => 292
  | .vmem => 9
  | .smem => 0
  | _ => 0

abbrev hbmTy0_0 (i : Nat) : BufTy := match i % 128 with
  | 0 => ⟨S16x1000000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S16x1000000, .i64⟩
  | 21 => ⟨S16x1000000, .i64⟩
  | 22 => ⟨S_, .i64⟩
  | 23 => ⟨S16x1000000, .i64⟩
  | 24 => ⟨S16x1000000, .i64⟩
  | 25 => ⟨S_, .i64⟩
  | 26 => ⟨S16x1000000, .i64⟩
  | 27 => ⟨S16x1000000, .i64⟩
  | 28 => ⟨S16x1000000, .i64⟩
  | 29 => ⟨S_, .i64⟩
  | 30 => ⟨S16x1000000, .i64⟩
  | 31 => ⟨S16x1000000, .i64⟩
  | 32 => ⟨S16x1000000, .i32⟩
  | 33 => ⟨S16x1000000, .i32⟩
  | 34 => ⟨S_, .i32⟩
  | 35 => ⟨S_, .i32⟩
  | 36 => ⟨S_, .i32⟩
  | 37 => ⟨S16x1000000, .i32⟩
  | 38 => ⟨S16x1000000, .i32⟩
  | 39 => ⟨S16x1000000, .i32⟩
  | 40 => ⟨S16x1000000, .i32⟩
  | 41 => ⟨S16x1000000, .i32⟩
  | 42 => ⟨S_, .i32⟩
  | 43 => ⟨S16x1000000, .i32⟩
  | 44 => ⟨S16x1000000, .i32⟩
  | 45 => ⟨S_, .i32⟩
  | 46 => ⟨S16x1000000, .i32⟩
  | 47 => ⟨S16x1000000, .i32⟩
  | 48 => ⟨S16x1000000, .i32⟩
  | 49 => ⟨S16x1000000, .i32⟩
  | 50 => ⟨S16x1000000, .i32⟩
  | 51 => ⟨S_, .i32⟩
  | 52 => ⟨S16x1000000, .i32⟩
  | 53 => ⟨S16x1000000, .i32⟩
  | 54 => ⟨S_, .i32⟩
  | 55 => ⟨S16x1000000, .i32⟩
  | 56 => ⟨S16x1000000, .i32⟩
  | 57 => ⟨S16x1000000, .i32⟩
  | 58 => ⟨S16x1000000, .i32⟩
  | 59 => ⟨S16x1000000, .i32⟩
  | 60 => ⟨S_, .i32⟩
  | 61 => ⟨S16x1000000, .i32⟩
  | 62 => ⟨S16x1000000, .i32⟩
  | 63 => ⟨S_, .i32⟩
  | 64 => ⟨S16x1000000, .i32⟩
  | 65 => ⟨S16x1000000, .i32⟩
  | 66 => ⟨S16x1000000, .i32⟩
  | 67 => ⟨S16x1000000, .i32⟩
  | 68 => ⟨S16x1000000, .i32⟩
  | 69 => ⟨S_, .i32⟩
  | 70 => ⟨S16x1000000, .i32⟩
  | 71 => ⟨S16x1000000, .i32⟩
  | 72 => ⟨S_, .i32⟩
  | 73 => ⟨S16x1000000, .i32⟩
  | 74 => ⟨S16x1000000, .i32⟩
  | 75 => ⟨S16x1000000, .i32⟩
  | 76 => ⟨S16x1000000, .i32⟩
  | 77 => ⟨S16x1000000, .i32⟩
  | 78 => ⟨S16x1000000, .i32⟩
  | 79 => ⟨S16x1000000, .i32⟩
  | 80 => ⟨S16x1000000, .i32⟩
  | 81 => ⟨S_, .i32⟩
  | 82 => ⟨S16x1000000, .i32⟩
  | 83 => ⟨S16x1000000, .i32⟩
  | 84 => ⟨S16x1000000, .i32⟩
  | 85 => ⟨S_, .i32⟩
  | 86 => ⟨S16x1000000, .i32⟩
  | 87 => ⟨S16x1000000, .i32⟩
  | 88 => ⟨S_, .i32⟩
  | 89 => ⟨S16x1000000, .i32⟩
  | 90 => ⟨S16x1000000, .i32⟩
  | 91 => ⟨S16x1000000, .i32⟩
  | 92 => ⟨S16x1000000, .i32⟩
  | 93 => ⟨S16x1000000, .i32⟩
  | 94 => ⟨S_, .i32⟩
  | 95 => ⟨S16x1000000, .i32⟩
  | 96 => ⟨S16x1000000, .i32⟩
  | 97 => ⟨S_, .i32⟩
  | 98 => ⟨S16x1000000, .i32⟩
  | 99 => ⟨S16x1000000, .i32⟩
  | 100 => ⟨S16x1000000, .i32⟩
  | 101 => ⟨S16x1000000, .i32⟩
  | 102 => ⟨S16x1000000, .i32⟩
  | 103 => ⟨S_, .i32⟩
  | 104 => ⟨S16x1000000, .i32⟩
  | 105 => ⟨S16x1000000, .i32⟩
  | 106 => ⟨S_, .i32⟩
  | 107 => ⟨S16x1000000, .i32⟩
  | 108 => ⟨S16x1000000, .i32⟩
  | 109 => ⟨S16x1000000, .i32⟩
  | 110 => ⟨S16x1000000, .i32⟩
  | 111 => ⟨S16x1000000, .i32⟩
  | 112 => ⟨S_, .i32⟩
  | 113 => ⟨S16x1000000, .i32⟩
  | 114 => ⟨S16x1000000, .i32⟩
  | 115 => ⟨S_, .i32⟩
  | 116 => ⟨S16x1000000, .i32⟩
  | 117 => ⟨S16x1000000, .i32⟩
  | 118 => ⟨S16x1000000, .i32⟩
  | 119 => ⟨S16x1000000, .i32⟩
  | 120 => ⟨S16x1000000, .i32⟩
  | 121 => ⟨S16x1000000, .i32⟩
  | 122 => ⟨S16x1000000, .i32⟩
  | 123 => ⟨S16x1000000, .i32⟩
  | 124 => ⟨S_, .i32⟩
  | 125 => ⟨S16x1000000, .i32⟩
  | 126 => ⟨S16x1000000, .i32⟩
  | 127 => ⟨S16x1000000, .i32⟩
  | _ => ⟨S16x1000000, .f32⟩

abbrev hbmTy0_1 (i : Nat) : BufTy := match i % 128 with
  | 0 => ⟨S_, .i32⟩
  | 1 => ⟨S16x1000000, .i32⟩
  | 2 => ⟨S16x1000000, .i32⟩
  | 3 => ⟨S_, .i32⟩
  | 4 => ⟨S16x1000000, .i32⟩
  | 5 => ⟨S16x1000000, .i32⟩
  | 6 => ⟨S16x1000000, .i32⟩
  | 7 => ⟨S16x1000000, .i32⟩
  | 8 => ⟨S16x1000000, .i32⟩
  | 9 => ⟨S_, .i32⟩
  | 10 => ⟨S16x1000000, .i32⟩
  | 11 => ⟨S16x1000000, .i32⟩
  | 12 => ⟨S_, .i32⟩
  | 13 => ⟨S16x1000000, .i32⟩
  | 14 => ⟨S16x1000000, .i32⟩
  | 15 => ⟨S16x1000000, .i32⟩
  | 16 => ⟨S16x1000000, .i32⟩
  | 17 => ⟨S16x1000000, .i32⟩
  | 18 => ⟨S_, .i32⟩
  | 19 => ⟨S16x1000000, .i32⟩
  | 20 => ⟨S16x1000000, .i32⟩
  | 21 => ⟨S_, .i32⟩
  | 22 => ⟨S16x1000000, .i32⟩
  | 23 => ⟨S16x1000000, .i32⟩
  | 24 => ⟨S16x1000000, .i32⟩
  | 25 => ⟨S16x1000000, .i32⟩
  | 26 => ⟨S16x1000000, .i32⟩
  | 27 => ⟨S_, .i32⟩
  | 28 => ⟨S16x1000000, .i32⟩
  | 29 => ⟨S16x1000000, .i32⟩
  | 30 => ⟨S_, .i32⟩
  | 31 => ⟨S16x1000000, .i32⟩
  | 32 => ⟨S16x1000000, .i32⟩
  | 33 => ⟨S16x1000000, .i32⟩
  | 34 => ⟨S16x1000000, .i32⟩
  | 35 => ⟨S16x1000000, .i32⟩
  | 36 => ⟨S16x1000000, .i32⟩
  | 37 => ⟨S16x1000000, .i32⟩
  | 38 => ⟨S16x1000000, .i32⟩
  | 39 => ⟨S_, .i32⟩
  | 40 => ⟨S16x1000000, .i32⟩
  | 41 => ⟨S16x1000000, .i32⟩
  | 42 => ⟨S16x1000000, .i32⟩
  | 43 => ⟨S_, .i32⟩
  | 44 => ⟨S16x1000000, .i32⟩
  | 45 => ⟨S16x1000000, .i32⟩
  | 46 => ⟨S_, .i32⟩
  | 47 => ⟨S16x1000000, .i32⟩
  | 48 => ⟨S16x1000000, .i32⟩
  | 49 => ⟨S16x1000000, .i32⟩
  | 50 => ⟨S16x1000000, .i32⟩
  | 51 => ⟨S16x1000000, .i32⟩
  | 52 => ⟨S_, .i32⟩
  | 53 => ⟨S16x1000000, .i32⟩
  | 54 => ⟨S16x1000000, .i32⟩
  | 55 => ⟨S_, .i32⟩
  | 56 => ⟨S16x1000000, .i32⟩
  | 57 => ⟨S16x1000000, .i32⟩
  | 58 => ⟨S16x1000000, .i32⟩
  | 59 => ⟨S16x1000000, .i32⟩
  | 60 => ⟨S16x1000000, .i32⟩
  | 61 => ⟨S_, .i32⟩
  | 62 => ⟨S16x1000000, .i32⟩
  | 63 => ⟨S16x1000000, .i32⟩
  | 64 => ⟨S_, .i32⟩
  | 65 => ⟨S16x1000000, .i32⟩
  | 66 => ⟨S16x1000000, .i32⟩
  | 67 => ⟨S16x1000000, .i32⟩
  | 68 => ⟨S16x1000000, .i32⟩
  | 69 => ⟨S16x1000000, .i32⟩
  | 70 => ⟨S_, .i32⟩
  | 71 => ⟨S16x1000000, .i32⟩
  | 72 => ⟨S16x1000000, .i32⟩
  | 73 => ⟨S_, .i32⟩
  | 74 => ⟨S16x1000000, .i32⟩
  | 75 => ⟨S16x1000000, .i32⟩
  | 76 => ⟨S16x1000000, .i32⟩
  | 77 => ⟨S16x1000000, .i32⟩
  | 78 => ⟨S16x1000000, .i32⟩
  | 79 => ⟨S16x1000000, .i32⟩
  | 80 => ⟨S16x1000000, .i32⟩
  | 81 => ⟨S16x1000000, .i32⟩
  | 82 => ⟨S_, .i32⟩
  | 83 => ⟨S16x1000000, .i32⟩
  | 84 => ⟨S16x1000000, .i32⟩
  | 85 => ⟨S16x1000000, .i32⟩
  | 86 => ⟨S_, .i32⟩
  | 87 => ⟨S16x1000000, .i32⟩
  | 88 => ⟨S16x1000000, .i32⟩
  | 89 => ⟨S_, .i32⟩
  | 90 => ⟨S16x1000000, .i32⟩
  | 91 => ⟨S16x1000000, .i32⟩
  | 92 => ⟨S16x1000000, .i32⟩
  | 93 => ⟨S16x1000000, .i32⟩
  | 94 => ⟨S16x1000000, .i32⟩
  | 95 => ⟨S_, .i32⟩
  | 96 => ⟨S16x1000000, .i32⟩
  | 97 => ⟨S16x1000000, .i32⟩
  | 98 => ⟨S_, .i32⟩
  | 99 => ⟨S16x1000000, .i32⟩
  | 100 => ⟨S16x1000000, .i32⟩
  | 101 => ⟨S16x1000000, .i32⟩
  | 102 => ⟨S16x1000000, .i32⟩
  | 103 => ⟨S16x1000000, .i32⟩
  | 104 => ⟨S_, .i32⟩
  | 105 => ⟨S16x1000000, .i32⟩
  | 106 => ⟨S16x1000000, .i32⟩
  | 107 => ⟨S_, .i32⟩
  | 108 => ⟨S16x1000000, .i32⟩
  | 109 => ⟨S16x1000000, .i32⟩
  | 110 => ⟨S16x1000000, .i32⟩
  | 111 => ⟨S16x1000000, .i32⟩
  | 112 => ⟨S16x1000000, .i32⟩
  | 113 => ⟨S_, .i32⟩
  | 114 => ⟨S16x1000000, .i32⟩
  | 115 => ⟨S16x1000000, .i32⟩
  | 116 => ⟨S_, .i32⟩
  | 117 => ⟨S16x1000000, .i32⟩
  | 118 => ⟨S16x1000000, .i32⟩
  | 119 => ⟨S16x1000000, .i32⟩
  | 120 => ⟨S16x1000000, .i32⟩
  | 121 => ⟨S16x1000000, .i32⟩
  | 122 => ⟨S16x1000000, .i32⟩
  | 123 => ⟨S16x1000000, .i32⟩
  | 124 => ⟨S16x1000000, .i32⟩
  | 125 => ⟨S_, .i32⟩
  | 126 => ⟨S16x1000000, .i32⟩
  | 127 => ⟨S16x1000000, .i32⟩
  | _ => ⟨S16x1000000, .f32⟩

abbrev hbmTy0_2 (i : Nat) : BufTy := match i % 128 with
  | 0 => ⟨S16x1000000, .i32⟩
  | 1 => ⟨S_, .i32⟩
  | 2 => ⟨S16x1000000, .i32⟩
  | 3 => ⟨S16x1000000, .i32⟩
  | 4 => ⟨S_, .i32⟩
  | 5 => ⟨S16x1000000, .i32⟩
  | 6 => ⟨S16x1000000, .i32⟩
  | 7 => ⟨S16x1000000, .f32⟩
  | 8 => ⟨S_, .f32⟩
  | 9 => ⟨S16x1000000, .f32⟩
  | 10 => ⟨S16x1000000, .f32⟩
  | 11 => ⟨S1x1, .f32⟩
  | 12 => ⟨S16x1000000, .f32⟩
  | 13 => ⟨S16x1000000, .f32⟩
  | 14 => ⟨S16x1000000, .f32⟩
  | 15 => ⟨S16x1000000, .f32⟩
  | 16 => ⟨S16x1000000, .f32⟩
  | 17 => ⟨S16x1000000, .f32⟩
  | 18 => ⟨S16x1000000, .f32⟩
  | 19 => ⟨S16x1000000, .f32⟩
  | 20 => ⟨S16x1000000, .f32⟩
  | 21 => ⟨S16x1000000, .f32⟩
  | 22 => ⟨S_, .f32⟩
  | 23 => ⟨S16x48576, .f32⟩
  | 24 => ⟨S16x1048576, .f32⟩
  | 25 => ⟨S16x1024x1024, .f32⟩
  | 26 => ⟨S_, .f32⟩
  | 27 => ⟨S16x48576, .f32⟩
  | 28 => ⟨S16x1048576, .f32⟩
  | 29 => ⟨S16x1024x1024, .f32⟩
  | 30 => ⟨S16x1024x1024, .f32⟩
  | 31 => ⟨S16x1x1, .f32⟩
  | 32 => ⟨S16x1048576, .f32⟩
  | 33 => ⟨S16x1000000, .f32⟩
  | 34 => ⟨S16, .f32⟩
  | 35 => ⟨S16, .i32⟩
  | _ => ⟨S16x1000000, .f32⟩

abbrev hbmTy (i : Nat) : BufTy := match i / 128 with
  | 0 => hbmTy0_0 i
  | 1 => hbmTy0_1 i
  | 2 => hbmTy0_2 i
  | _ => ⟨S16x1000000, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1, .f32⟩
  | .local _ .vmem, ⟨7, _⟩ => ⟨S1x1x1, .f32⟩
  | .local _ .vmem, ⟨8, _⟩ => ⟨S8x128, .f32⟩
  | _, _ => ⟨S16x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_c_0 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_call0_v0 : Ref sig .tc := ⟨.hbm, 34, rfl⟩
abbrev main_call0_call0_call0_c : Ref sig .tc := ⟨.hbm, 35, rfl⟩
abbrev main_call0_call0_call0_v1 : Ref sig .tc := ⟨.hbm, 36, rfl⟩
abbrev main_call0_call0_call0_v2 : Ref sig .tc := ⟨.hbm, 37, rfl⟩
abbrev main_call0_call0_call0_v3 : Ref sig .tc := ⟨.hbm, 38, rfl⟩
abbrev main_call0_call0_call0_v4 : Ref sig .tc := ⟨.hbm, 39, rfl⟩
abbrev main_call0_call0_call0_v5 : Ref sig .tc := ⟨.hbm, 40, rfl⟩
abbrev main_call0_call0_call0_v6 : Ref sig .tc := ⟨.hbm, 41, rfl⟩
abbrev main_call0_call0_call0_c_0 : Ref sig .tc := ⟨.hbm, 42, rfl⟩
abbrev main_call0_call0_call0_v7 : Ref sig .tc := ⟨.hbm, 43, rfl⟩
abbrev main_call0_call0_call0_v8 : Ref sig .tc := ⟨.hbm, 44, rfl⟩
abbrev main_call0_call0_call0_c_1 : Ref sig .tc := ⟨.hbm, 45, rfl⟩
abbrev main_call0_call0_call0_v9 : Ref sig .tc := ⟨.hbm, 46, rfl⟩
abbrev main_call0_call0_call0_v10 : Ref sig .tc := ⟨.hbm, 47, rfl⟩
abbrev main_call0_call0_call0_v11 : Ref sig .tc := ⟨.hbm, 48, rfl⟩
abbrev main_call0_call0_call0_v12 : Ref sig .tc := ⟨.hbm, 49, rfl⟩
abbrev main_call0_call0_call0_v13 : Ref sig .tc := ⟨.hbm, 50, rfl⟩
abbrev main_call0_call0_call0_c_2 : Ref sig .tc := ⟨.hbm, 51, rfl⟩
abbrev main_call0_call0_call0_v14 : Ref sig .tc := ⟨.hbm, 52, rfl⟩
abbrev main_call0_call0_call0_v15 : Ref sig .tc := ⟨.hbm, 53, rfl⟩
abbrev main_call0_call0_call0_c_3 : Ref sig .tc := ⟨.hbm, 54, rfl⟩
abbrev main_call0_call0_call0_v16 : Ref sig .tc := ⟨.hbm, 55, rfl⟩
abbrev main_call0_call0_call0_v17 : Ref sig .tc := ⟨.hbm, 56, rfl⟩
abbrev main_call0_call0_call0_v18 : Ref sig .tc := ⟨.hbm, 57, rfl⟩
abbrev main_call0_call0_call0_v19 : Ref sig .tc := ⟨.hbm, 58, rfl⟩
abbrev main_call0_call0_call0_v20 : Ref sig .tc := ⟨.hbm, 59, rfl⟩
abbrev main_call0_call0_call0_c_4 : Ref sig .tc := ⟨.hbm, 60, rfl⟩
abbrev main_call0_call0_call0_v21 : Ref sig .tc := ⟨.hbm, 61, rfl⟩
abbrev main_call0_call0_call0_v22 : Ref sig .tc := ⟨.hbm, 62, rfl⟩
abbrev main_call0_call0_call0_c_5 : Ref sig .tc := ⟨.hbm, 63, rfl⟩
abbrev main_call0_call0_call0_v23 : Ref sig .tc := ⟨.hbm, 64, rfl⟩
abbrev main_call0_call0_call0_v24 : Ref sig .tc := ⟨.hbm, 65, rfl⟩
abbrev main_call0_call0_call0_v25 : Ref sig .tc := ⟨.hbm, 66, rfl⟩
abbrev main_call0_call0_call0_v26 : Ref sig .tc := ⟨.hbm, 67, rfl⟩
abbrev main_call0_call0_call0_v27 : Ref sig .tc := ⟨.hbm, 68, rfl⟩
abbrev main_call0_call0_call0_c_6 : Ref sig .tc := ⟨.hbm, 69, rfl⟩
abbrev main_call0_call0_call0_v28 : Ref sig .tc := ⟨.hbm, 70, rfl⟩
abbrev main_call0_call0_call0_v29 : Ref sig .tc := ⟨.hbm, 71, rfl⟩
abbrev main_call0_call0_call0_c_7 : Ref sig .tc := ⟨.hbm, 72, rfl⟩
abbrev main_call0_call0_call0_v30 : Ref sig .tc := ⟨.hbm, 73, rfl⟩
abbrev main_call0_call0_call0_v31 : Ref sig .tc := ⟨.hbm, 74, rfl⟩
abbrev main_call0_call0_call0_v32 : Ref sig .tc := ⟨.hbm, 75, rfl⟩
abbrev main_call0_call0_call0_v33 : Ref sig .tc := ⟨.hbm, 76, rfl⟩
abbrev main_call0_call0_call0_v34 : Ref sig .tc := ⟨.hbm, 77, rfl⟩
abbrev main_call0_call0_call0_v35 : Ref sig .tc := ⟨.hbm, 78, rfl⟩
abbrev main_call0_call0_call0_v36 : Ref sig .tc := ⟨.hbm, 79, rfl⟩
abbrev main_call0_call0_call0_v37 : Ref sig .tc := ⟨.hbm, 80, rfl⟩
abbrev main_call0_call0_call0_c_8 : Ref sig .tc := ⟨.hbm, 81, rfl⟩
abbrev main_call0_call0_call0_v38 : Ref sig .tc := ⟨.hbm, 82, rfl⟩
abbrev main_call0_call0_call0_v39 : Ref sig .tc := ⟨.hbm, 83, rfl⟩
abbrev main_call0_call0_call0_v40 : Ref sig .tc := ⟨.hbm, 84, rfl⟩
abbrev main_call0_call0_call0_c_9 : Ref sig .tc := ⟨.hbm, 85, rfl⟩
abbrev main_call0_call0_call0_v41 : Ref sig .tc := ⟨.hbm, 86, rfl⟩
abbrev main_call0_call0_call0_v42 : Ref sig .tc := ⟨.hbm, 87, rfl⟩
abbrev main_call0_call0_call0_c_10 : Ref sig .tc := ⟨.hbm, 88, rfl⟩
abbrev main_call0_call0_call0_v43 : Ref sig .tc := ⟨.hbm, 89, rfl⟩
abbrev main_call0_call0_call0_v44 : Ref sig .tc := ⟨.hbm, 90, rfl⟩
abbrev main_call0_call0_call0_v45 : Ref sig .tc := ⟨.hbm, 91, rfl⟩
abbrev main_call0_call0_call0_v46 : Ref sig .tc := ⟨.hbm, 92, rfl⟩
abbrev main_call0_call0_call0_v47 : Ref sig .tc := ⟨.hbm, 93, rfl⟩
abbrev main_call0_call0_call0_c_11 : Ref sig .tc := ⟨.hbm, 94, rfl⟩
abbrev main_call0_call0_call0_v48 : Ref sig .tc := ⟨.hbm, 95, rfl⟩
abbrev main_call0_call0_call0_v49 : Ref sig .tc := ⟨.hbm, 96, rfl⟩
abbrev main_call0_call0_call0_c_12 : Ref sig .tc := ⟨.hbm, 97, rfl⟩
abbrev main_call0_call0_call0_v50 : Ref sig .tc := ⟨.hbm, 98, rfl⟩
abbrev main_call0_call0_call0_v51 : Ref sig .tc := ⟨.hbm, 99, rfl⟩
abbrev main_call0_call0_call0_v52 : Ref sig .tc := ⟨.hbm, 100, rfl⟩
abbrev main_call0_call0_call0_v53 : Ref sig .tc := ⟨.hbm, 101, rfl⟩
abbrev main_call0_call0_call0_v54 : Ref sig .tc := ⟨.hbm, 102, rfl⟩
abbrev main_call0_call0_call0_c_13 : Ref sig .tc := ⟨.hbm, 103, rfl⟩
abbrev main_call0_call0_call0_v55 : Ref sig .tc := ⟨.hbm, 104, rfl⟩
abbrev main_call0_call0_call0_v56 : Ref sig .tc := ⟨.hbm, 105, rfl⟩
abbrev main_call0_call0_call0_c_14 : Ref sig .tc := ⟨.hbm, 106, rfl⟩
abbrev main_call0_call0_call0_v57 : Ref sig .tc := ⟨.hbm, 107, rfl⟩
abbrev main_call0_call0_call0_v58 : Ref sig .tc := ⟨.hbm, 108, rfl⟩
abbrev main_call0_call0_call0_v59 : Ref sig .tc := ⟨.hbm, 109, rfl⟩
abbrev main_call0_call0_call0_v60 : Ref sig .tc := ⟨.hbm, 110, rfl⟩
abbrev main_call0_call0_call0_v61 : Ref sig .tc := ⟨.hbm, 111, rfl⟩
abbrev main_call0_call0_call0_c_15 : Ref sig .tc := ⟨.hbm, 112, rfl⟩
abbrev main_call0_call0_call0_v62 : Ref sig .tc := ⟨.hbm, 113, rfl⟩
abbrev main_call0_call0_call0_v63 : Ref sig .tc := ⟨.hbm, 114, rfl⟩
abbrev main_call0_call0_call0_c_16 : Ref sig .tc := ⟨.hbm, 115, rfl⟩
abbrev main_call0_call0_call0_v64 : Ref sig .tc := ⟨.hbm, 116, rfl⟩
abbrev main_call0_call0_call0_v65 : Ref sig .tc := ⟨.hbm, 117, rfl⟩
abbrev main_call0_call0_call0_v66 : Ref sig .tc := ⟨.hbm, 118, rfl⟩
abbrev main_call0_call0_call0_v67 : Ref sig .tc := ⟨.hbm, 119, rfl⟩
abbrev main_call0_call0_call0_v68 : Ref sig .tc := ⟨.hbm, 120, rfl⟩
abbrev main_call0_call0_call0_v69 : Ref sig .tc := ⟨.hbm, 121, rfl⟩
abbrev main_call0_call0_call0_v70 : Ref sig .tc := ⟨.hbm, 122, rfl⟩
abbrev main_call0_call0_call0_v71 : Ref sig .tc := ⟨.hbm, 123, rfl⟩
abbrev main_call0_call0_call0_c_17 : Ref sig .tc := ⟨.hbm, 124, rfl⟩
abbrev main_call0_call0_call0_v72 : Ref sig .tc := ⟨.hbm, 125, rfl⟩
abbrev main_call0_call0_call0_v73 : Ref sig .tc := ⟨.hbm, 126, rfl⟩
abbrev main_call0_call0_call0_v74 : Ref sig .tc := ⟨.hbm, 127, rfl⟩
abbrev main_call0_call0_call0_c_18 : Ref sig .tc := ⟨.hbm, 128, rfl⟩
abbrev main_call0_call0_call0_v75 : Ref sig .tc := ⟨.hbm, 129, rfl⟩
abbrev main_call0_call0_call0_v76 : Ref sig .tc := ⟨.hbm, 130, rfl⟩
abbrev main_call0_call0_call0_c_19 : Ref sig .tc := ⟨.hbm, 131, rfl⟩
abbrev main_call0_call0_call0_v77 : Ref sig .tc := ⟨.hbm, 132, rfl⟩
abbrev main_call0_call0_call0_v78 : Ref sig .tc := ⟨.hbm, 133, rfl⟩
abbrev main_call0_call0_call0_v79 : Ref sig .tc := ⟨.hbm, 134, rfl⟩
abbrev main_call0_call0_call0_v80 : Ref sig .tc := ⟨.hbm, 135, rfl⟩
abbrev main_call0_call0_call0_v81 : Ref sig .tc := ⟨.hbm, 136, rfl⟩
abbrev main_call0_call0_call0_c_20 : Ref sig .tc := ⟨.hbm, 137, rfl⟩
abbrev main_call0_call0_call0_v82 : Ref sig .tc := ⟨.hbm, 138, rfl⟩
abbrev main_call0_call0_call0_v83 : Ref sig .tc := ⟨.hbm, 139, rfl⟩
abbrev main_call0_call0_call0_c_21 : Ref sig .tc := ⟨.hbm, 140, rfl⟩
abbrev main_call0_call0_call0_v84 : Ref sig .tc := ⟨.hbm, 141, rfl⟩
abbrev main_call0_call0_call0_v85 : Ref sig .tc := ⟨.hbm, 142, rfl⟩
abbrev main_call0_call0_call0_v86 : Ref sig .tc := ⟨.hbm, 143, rfl⟩
abbrev main_call0_call0_call0_v87 : Ref sig .tc := ⟨.hbm, 144, rfl⟩
abbrev main_call0_call0_call0_v88 : Ref sig .tc := ⟨.hbm, 145, rfl⟩
abbrev main_call0_call0_call0_c_22 : Ref sig .tc := ⟨.hbm, 146, rfl⟩
abbrev main_call0_call0_call0_v89 : Ref sig .tc := ⟨.hbm, 147, rfl⟩
abbrev main_call0_call0_call0_v90 : Ref sig .tc := ⟨.hbm, 148, rfl⟩
abbrev main_call0_call0_call0_c_23 : Ref sig .tc := ⟨.hbm, 149, rfl⟩
abbrev main_call0_call0_call0_v91 : Ref sig .tc := ⟨.hbm, 150, rfl⟩
abbrev main_call0_call0_call0_v92 : Ref sig .tc := ⟨.hbm, 151, rfl⟩
abbrev main_call0_call0_call0_v93 : Ref sig .tc := ⟨.hbm, 152, rfl⟩
abbrev main_call0_call0_call0_v94 : Ref sig .tc := ⟨.hbm, 153, rfl⟩
abbrev main_call0_call0_call0_v95 : Ref sig .tc := ⟨.hbm, 154, rfl⟩
abbrev main_call0_call0_call0_c_24 : Ref sig .tc := ⟨.hbm, 155, rfl⟩
abbrev main_call0_call0_call0_v96 : Ref sig .tc := ⟨.hbm, 156, rfl⟩
abbrev main_call0_call0_call0_v97 : Ref sig .tc := ⟨.hbm, 157, rfl⟩
abbrev main_call0_call0_call0_c_25 : Ref sig .tc := ⟨.hbm, 158, rfl⟩
abbrev main_call0_call0_call0_v98 : Ref sig .tc := ⟨.hbm, 159, rfl⟩
abbrev main_call0_call0_call0_v99 : Ref sig .tc := ⟨.hbm, 160, rfl⟩
abbrev main_call0_call0_call0_v100 : Ref sig .tc := ⟨.hbm, 161, rfl⟩
abbrev main_call0_call0_call0_v101 : Ref sig .tc := ⟨.hbm, 162, rfl⟩
abbrev main_call0_call0_call0_v102 : Ref sig .tc := ⟨.hbm, 163, rfl⟩
abbrev main_call0_call0_call0_v103 : Ref sig .tc := ⟨.hbm, 164, rfl⟩
abbrev main_call0_call0_call0_v104 : Ref sig .tc := ⟨.hbm, 165, rfl⟩
abbrev main_call0_call0_call0_v105 : Ref sig .tc := ⟨.hbm, 166, rfl⟩
abbrev main_call0_call0_call0_c_26 : Ref sig .tc := ⟨.hbm, 167, rfl⟩
abbrev main_call0_call0_call0_v106 : Ref sig .tc := ⟨.hbm, 168, rfl⟩
abbrev main_call0_call0_call0_v107 : Ref sig .tc := ⟨.hbm, 169, rfl⟩
abbrev main_call0_call0_call0_v108 : Ref sig .tc := ⟨.hbm, 170, rfl⟩
abbrev main_call0_call0_call0_c_27 : Ref sig .tc := ⟨.hbm, 171, rfl⟩
abbrev main_call0_call0_call0_v109 : Ref sig .tc := ⟨.hbm, 172, rfl⟩
abbrev main_call0_call0_call0_v110 : Ref sig .tc := ⟨.hbm, 173, rfl⟩
abbrev main_call0_call0_call0_c_28 : Ref sig .tc := ⟨.hbm, 174, rfl⟩
abbrev main_call0_call0_call0_v111 : Ref sig .tc := ⟨.hbm, 175, rfl⟩
abbrev main_call0_call0_call0_v112 : Ref sig .tc := ⟨.hbm, 176, rfl⟩
abbrev main_call0_call0_call0_v113 : Ref sig .tc := ⟨.hbm, 177, rfl⟩
abbrev main_call0_call0_call0_v114 : Ref sig .tc := ⟨.hbm, 178, rfl⟩
abbrev main_call0_call0_call0_v115 : Ref sig .tc := ⟨.hbm, 179, rfl⟩
abbrev main_call0_call0_call0_c_29 : Ref sig .tc := ⟨.hbm, 180, rfl⟩
abbrev main_call0_call0_call0_v116 : Ref sig .tc := ⟨.hbm, 181, rfl⟩
abbrev main_call0_call0_call0_v117 : Ref sig .tc := ⟨.hbm, 182, rfl⟩
abbrev main_call0_call0_call0_c_30 : Ref sig .tc := ⟨.hbm, 183, rfl⟩
abbrev main_call0_call0_call0_v118 : Ref sig .tc := ⟨.hbm, 184, rfl⟩
abbrev main_call0_call0_call0_v119 : Ref sig .tc := ⟨.hbm, 185, rfl⟩
abbrev main_call0_call0_call0_v120 : Ref sig .tc := ⟨.hbm, 186, rfl⟩
abbrev main_call0_call0_call0_v121 : Ref sig .tc := ⟨.hbm, 187, rfl⟩
abbrev main_call0_call0_call0_v122 : Ref sig .tc := ⟨.hbm, 188, rfl⟩
abbrev main_call0_call0_call0_c_31 : Ref sig .tc := ⟨.hbm, 189, rfl⟩
abbrev main_call0_call0_call0_v123 : Ref sig .tc := ⟨.hbm, 190, rfl⟩
abbrev main_call0_call0_call0_v124 : Ref sig .tc := ⟨.hbm, 191, rfl⟩
abbrev main_call0_call0_call0_c_32 : Ref sig .tc := ⟨.hbm, 192, rfl⟩
abbrev main_call0_call0_call0_v125 : Ref sig .tc := ⟨.hbm, 193, rfl⟩
abbrev main_call0_call0_call0_v126 : Ref sig .tc := ⟨.hbm, 194, rfl⟩
abbrev main_call0_call0_call0_v127 : Ref sig .tc := ⟨.hbm, 195, rfl⟩
abbrev main_call0_call0_call0_v128 : Ref sig .tc := ⟨.hbm, 196, rfl⟩
abbrev main_call0_call0_call0_v129 : Ref sig .tc := ⟨.hbm, 197, rfl⟩
abbrev main_call0_call0_call0_c_33 : Ref sig .tc := ⟨.hbm, 198, rfl⟩
abbrev main_call0_call0_call0_v130 : Ref sig .tc := ⟨.hbm, 199, rfl⟩
abbrev main_call0_call0_call0_v131 : Ref sig .tc := ⟨.hbm, 200, rfl⟩
abbrev main_call0_call0_call0_c_34 : Ref sig .tc := ⟨.hbm, 201, rfl⟩
abbrev main_call0_call0_call0_v132 : Ref sig .tc := ⟨.hbm, 202, rfl⟩
abbrev main_call0_call0_call0_v133 : Ref sig .tc := ⟨.hbm, 203, rfl⟩
abbrev main_call0_call0_call0_v134 : Ref sig .tc := ⟨.hbm, 204, rfl⟩
abbrev main_call0_call0_call0_v135 : Ref sig .tc := ⟨.hbm, 205, rfl⟩
abbrev main_call0_call0_call0_v136 : Ref sig .tc := ⟨.hbm, 206, rfl⟩
abbrev main_call0_call0_call0_v137 : Ref sig .tc := ⟨.hbm, 207, rfl⟩
abbrev main_call0_call0_call0_v138 : Ref sig .tc := ⟨.hbm, 208, rfl⟩
abbrev main_call0_call0_call0_v139 : Ref sig .tc := ⟨.hbm, 209, rfl⟩
abbrev main_call0_call0_call0_c_35 : Ref sig .tc := ⟨.hbm, 210, rfl⟩
abbrev main_call0_call0_call0_v140 : Ref sig .tc := ⟨.hbm, 211, rfl⟩
abbrev main_call0_call0_call0_v141 : Ref sig .tc := ⟨.hbm, 212, rfl⟩
abbrev main_call0_call0_call0_v142 : Ref sig .tc := ⟨.hbm, 213, rfl⟩
abbrev main_call0_call0_call0_c_36 : Ref sig .tc := ⟨.hbm, 214, rfl⟩
abbrev main_call0_call0_call0_v143 : Ref sig .tc := ⟨.hbm, 215, rfl⟩
abbrev main_call0_call0_call0_v144 : Ref sig .tc := ⟨.hbm, 216, rfl⟩
abbrev main_call0_call0_call0_c_37 : Ref sig .tc := ⟨.hbm, 217, rfl⟩
abbrev main_call0_call0_call0_v145 : Ref sig .tc := ⟨.hbm, 218, rfl⟩
abbrev main_call0_call0_call0_v146 : Ref sig .tc := ⟨.hbm, 219, rfl⟩
abbrev main_call0_call0_call0_v147 : Ref sig .tc := ⟨.hbm, 220, rfl⟩
abbrev main_call0_call0_call0_v148 : Ref sig .tc := ⟨.hbm, 221, rfl⟩
abbrev main_call0_call0_call0_v149 : Ref sig .tc := ⟨.hbm, 222, rfl⟩
abbrev main_call0_call0_call0_c_38 : Ref sig .tc := ⟨.hbm, 223, rfl⟩
abbrev main_call0_call0_call0_v150 : Ref sig .tc := ⟨.hbm, 224, rfl⟩
abbrev main_call0_call0_call0_v151 : Ref sig .tc := ⟨.hbm, 225, rfl⟩
abbrev main_call0_call0_call0_c_39 : Ref sig .tc := ⟨.hbm, 226, rfl⟩
abbrev main_call0_call0_call0_v152 : Ref sig .tc := ⟨.hbm, 227, rfl⟩
abbrev main_call0_call0_call0_v153 : Ref sig .tc := ⟨.hbm, 228, rfl⟩
abbrev main_call0_call0_call0_v154 : Ref sig .tc := ⟨.hbm, 229, rfl⟩
abbrev main_call0_call0_call0_v155 : Ref sig .tc := ⟨.hbm, 230, rfl⟩
abbrev main_call0_call0_call0_v156 : Ref sig .tc := ⟨.hbm, 231, rfl⟩
abbrev main_call0_call0_call0_c_40 : Ref sig .tc := ⟨.hbm, 232, rfl⟩
abbrev main_call0_call0_call0_v157 : Ref sig .tc := ⟨.hbm, 233, rfl⟩
abbrev main_call0_call0_call0_v158 : Ref sig .tc := ⟨.hbm, 234, rfl⟩
abbrev main_call0_call0_call0_c_41 : Ref sig .tc := ⟨.hbm, 235, rfl⟩
abbrev main_call0_call0_call0_v159 : Ref sig .tc := ⟨.hbm, 236, rfl⟩
abbrev main_call0_call0_call0_v160 : Ref sig .tc := ⟨.hbm, 237, rfl⟩
abbrev main_call0_call0_call0_v161 : Ref sig .tc := ⟨.hbm, 238, rfl⟩
abbrev main_call0_call0_call0_v162 : Ref sig .tc := ⟨.hbm, 239, rfl⟩
abbrev main_call0_call0_call0_v163 : Ref sig .tc := ⟨.hbm, 240, rfl⟩
abbrev main_call0_call0_call0_c_42 : Ref sig .tc := ⟨.hbm, 241, rfl⟩
abbrev main_call0_call0_call0_v164 : Ref sig .tc := ⟨.hbm, 242, rfl⟩
abbrev main_call0_call0_call0_v165 : Ref sig .tc := ⟨.hbm, 243, rfl⟩
abbrev main_call0_call0_call0_c_43 : Ref sig .tc := ⟨.hbm, 244, rfl⟩
abbrev main_call0_call0_call0_v166 : Ref sig .tc := ⟨.hbm, 245, rfl⟩
abbrev main_call0_call0_call0_v167 : Ref sig .tc := ⟨.hbm, 246, rfl⟩
abbrev main_call0_call0_call0_v168 : Ref sig .tc := ⟨.hbm, 247, rfl⟩
abbrev main_call0_call0_call0_v169 : Ref sig .tc := ⟨.hbm, 248, rfl⟩
abbrev main_call0_call0_call0_v170 : Ref sig .tc := ⟨.hbm, 249, rfl⟩
abbrev main_call0_call0_v18_0 : Ref sig .tc := ⟨.hbm, 250, rfl⟩
abbrev main_call0_call0_call0_v172 : Ref sig .tc := ⟨.hbm, 251, rfl⟩
abbrev main_call0_call0_call0_v173 : Ref sig .tc := ⟨.hbm, 252, rfl⟩
abbrev main_call0_call0_call0_c_44 : Ref sig .tc := ⟨.hbm, 253, rfl⟩
abbrev main_call0_call0_call0_v174 : Ref sig .tc := ⟨.hbm, 254, rfl⟩
abbrev main_call0_call0_v18_1 : Ref sig .tc := ⟨.hbm, 255, rfl⟩
abbrev main_call0_call0_v19 : Ref sig .tc := ⟨.hbm, 256, rfl⟩
abbrev main_call0_call0_c_2 : Ref sig .tc := ⟨.hbm, 257, rfl⟩
abbrev main_call0_call0_v20 : Ref sig .tc := ⟨.hbm, 258, rfl⟩
abbrev main_call0_call0_v21 : Ref sig .tc := ⟨.hbm, 259, rfl⟩
abbrev main_call0_call0_c_3 : Ref sig .tc := ⟨.hbm, 260, rfl⟩
abbrev main_call0_call0_v22 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_cst : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_call0_v3 : Ref sig .tc := ⟨.hbm, 276, rfl⟩
abbrev main_v7 : Ref sig .tc := ⟨.hbm, 277, rfl⟩
abbrev main_cst : Ref sig .tc := ⟨.hbm, 278, rfl⟩
abbrev main_v8 : Ref sig .tc := ⟨.hbm, 279, rfl⟩
abbrev main_v9 : Ref sig .tc := ⟨.hbm, 280, rfl⟩
abbrev main_v10 : Ref sig .tc := ⟨.hbm, 281, rfl⟩
abbrev main_cst_2 : Ref sig .tc := ⟨.hbm, 282, rfl⟩
abbrev main_v11 : Ref sig .tc := ⟨.hbm, 283, rfl⟩
abbrev main_v12 : Ref sig .tc := ⟨.hbm, 284, rfl⟩
abbrev main_v13 : Ref sig .tc := ⟨.hbm, 285, rfl⟩
abbrev main_v14_0 : Ref sig .tc := ⟨.hbm, 286, rfl⟩
abbrev main_v14_1 : Ref sig .tc := ⟨.hbm, 287, rfl⟩
abbrev main_v15 : Ref sig .tc := ⟨.hbm, 288, rfl⟩
abbrev main_v16 : Ref sig .tc := ⟨.hbm, 289, rfl⟩
abbrev main_v17 : Ref sig .tc := ⟨.hbm, 290, rfl⟩
abbrev main_v18 : Ref sig .tc := ⟨.hbm, 291, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x1000000 : Shape := ⟨2, ![16, 1000000]⟩
abbrev S_ : Shape := ⟨0, ![]⟩
abbrev S16 : Shape := ⟨1, ![16]⟩
abbrev S16x1 : Shape := ⟨2, ![16, 1]⟩
abbrev S16x1000000x1 : Shape := ⟨3, ![16, 1000000, 1]⟩
abbrev S1 : Shape := ⟨1, ![1]⟩
abbrev S1x1x1 : Shape := ⟨3, ![1, 1, 1]⟩
abbrev S2 : Shape := ⟨1, ![2]⟩
abbrev S1x1 : Shape := ⟨2, ![1, 1]⟩
abbrev S16x1x1 : Shape := ⟨3, ![16, 1, 1]⟩

abbrev nBuf : Space → Nat
  | .hbm => 379
  | .vmem => 0
  | .smem => 0
  | _ => 0

abbrev hbmTy0_0 (i : Nat) : BufTy := match i % 128 with
  | 0 => ⟨S16x1000000, .f32⟩
  | 1 => ⟨S_, .f32⟩
  | 2 => ⟨S16x1000000, .f32⟩
  | 3 => ⟨S16x1000000, .f32⟩
  | 4 => ⟨S_, .f32⟩
  | 5 => ⟨S16, .f32⟩
  | 6 => ⟨S_, .f32⟩
  | 7 => ⟨S16, .f32⟩
  | 8 => ⟨S16, .f32⟩
  | 9 => ⟨S16x1, .f32⟩
  | 10 => ⟨S16x1000000, .f32⟩
  | 11 => ⟨S16x1000000, .f32⟩
  | 12 => ⟨S16x1000000, .f32⟩
  | 13 => ⟨S_, .f32⟩
  | 14 => ⟨S16, .f32⟩
  | 15 => ⟨S16x1, .f32⟩
  | 16 => ⟨S16x1000000, .f32⟩
  | 17 => ⟨S16x1000000, .f32⟩
  | 18 => ⟨S16x1000000, .f32⟩
  | 19 => ⟨S16x1000000, .i32⟩
  | 20 => ⟨S16x1000000, .f32⟩
  | 21 => ⟨S16x1000000, .i32⟩
  | 22 => ⟨S_, .i32⟩
  | 23 => ⟨S16x1000000, .i32⟩
  | 24 => ⟨S16x1000000, .i1⟩
  | 25 => ⟨S_, .i32⟩
  | 26 => ⟨S16x1000000, .i32⟩
  | 27 => ⟨S16x1000000, .i32⟩
  | 28 => ⟨S16x1000000, .i32⟩
  | 29 => ⟨S16x1000000x1, .i32⟩
  | 30 => ⟨S1, .i32⟩
  | 31 => ⟨S_, .i32⟩
  | 32 => ⟨S16x1000000x1, .i32⟩
  | 33 => ⟨S16x1000000x1, .i1⟩
  | 34 => ⟨S1x1x1, .i32⟩
  | 35 => ⟨S16x1000000x1, .i32⟩
  | 36 => ⟨S16x1000000x1, .i1⟩
  | 37 => ⟨S16x1000000x1, .i1⟩
  | 38 => ⟨S_, .i1⟩
  | 39 => ⟨S16x1000000, .i1⟩
  | 40 => ⟨S16x1000000, .f32⟩
  | 41 => ⟨S_, .f32⟩
  | 42 => ⟨S16x1000000, .f32⟩
  | 43 => ⟨S16x1000000, .f32⟩
  | 44 => ⟨S_, .f32⟩
  | 45 => ⟨S_, .f32⟩
  | 46 => ⟨S16x1000000, .f32⟩
  | 47 => ⟨S_, .f32⟩
  | 48 => ⟨S16x1000000, .f32⟩
  | 49 => ⟨S16x1000000, .i1⟩
  | 50 => ⟨S_, .i32⟩
  | 51 => ⟨S1, .i32⟩
  | 52 => ⟨S_, .i1⟩
  | 53 => ⟨S16, .i1⟩
  | 54 => ⟨S16x1000000, .i1⟩
  | 55 => ⟨S_, .f32⟩
  | 56 => ⟨S_, .f32⟩
  | 57 => ⟨S16x1000000, .f32⟩
  | 58 => ⟨S16x1000000, .f32⟩
  | 59 => ⟨S_, .f32⟩
  | 60 => ⟨S16, .f32⟩
  | 61 => ⟨S16x1, .f32⟩
  | 62 => ⟨S16x1000000, .f32⟩
  | 63 => ⟨S16x1000000, .f32⟩
  | 64 => ⟨S_, .f32⟩
  | 65 => ⟨S16x1000000, .f32⟩
  | 66 => ⟨S16x1000000, .f32⟩
  | 67 => ⟨S16x1000000, .f32⟩
  | 68 => ⟨S_, .f32⟩
  | 69 => ⟨S_, .f32⟩
  | 70 => ⟨S16x1000000, .f32⟩
  | 71 => ⟨S16x1000000, .f32⟩
  | 72 => ⟨S_, .i32⟩
  | 73 => ⟨S_, .i32⟩
  | 74 => ⟨S_, .i32⟩
  | 75 => ⟨S_, .i32⟩
  | 76 => ⟨S1, .i32⟩
  | 77 => ⟨S_, .i32⟩
  | 78 => ⟨S_, .i32⟩
  | 79 => ⟨S_, .i32⟩
  | 80 => ⟨S1, .i32⟩
  | 81 => ⟨S2, .i32⟩
  | 82 => ⟨S_, .f32⟩
  | 83 => ⟨S_, .f32⟩
  | 84 => ⟨S_, .f32⟩
  | 85 => ⟨S1x1, .f32⟩
  | 86 => ⟨S1x1, .f32⟩
  | 87 => ⟨S1, .i32⟩
  | 88 => ⟨S_, .i32⟩
  | 89 => ⟨S1, .i32⟩
  | 90 => ⟨S_, .i32⟩
  | 91 => ⟨S16x1000000, .i64⟩
  | 92 => ⟨S16x1000000, .i64⟩
  | 93 => ⟨S_, .i64⟩
  | 94 => ⟨S16x1000000, .i64⟩
  | 95 => ⟨S16x1000000, .i64⟩
  | 96 => ⟨S_, .i64⟩
  | 97 => ⟨S16x1000000, .i64⟩
  | 98 => ⟨S16x1000000, .i64⟩
  | 99 => ⟨S16x1000000, .i64⟩
  | 100 => ⟨S_, .i64⟩
  | 101 => ⟨S16x1000000, .i64⟩
  | 102 => ⟨S16x1000000, .i64⟩
  | 103 => ⟨S16x1000000, .i32⟩
  | 104 => ⟨S16x1000000, .i32⟩
  | 105 => ⟨S_, .i32⟩
  | 106 => ⟨S_, .i32⟩
  | 107 => ⟨S_, .i32⟩
  | 108 => ⟨S16x1000000, .i32⟩
  | 109 => ⟨S16x1000000, .i32⟩
  | 110 => ⟨S16x1000000, .i32⟩
  | 111 => ⟨S16x1000000, .i32⟩
  | 112 => ⟨S16x1000000, .i32⟩
  | 113 => ⟨S_, .i32⟩
  | 114 => ⟨S16x1000000, .i32⟩
  | 115 => ⟨S16x1000000, .i32⟩
  | 116 => ⟨S_, .i32⟩
  | 117 => ⟨S16x1000000, .i32⟩
  | 118 => ⟨S16x1000000, .i32⟩
  | 119 => ⟨S16x1000000, .i32⟩
  | 120 => ⟨S16x1000000, .i32⟩
  | 121 => ⟨S16x1000000, .i32⟩
  | 122 => ⟨S_, .i32⟩
  | 123 => ⟨S16x1000000, .i32⟩
  | 124 => ⟨S16x1000000, .i32⟩
  | 125 => ⟨S_, .i32⟩
  | 126 => ⟨S16x1000000, .i32⟩
  | 127 => ⟨S16x1000000, .i32⟩
  | _ => ⟨S16x1000000, .f32⟩

abbrev hbmTy0_1 (i : Nat) : BufTy := match i % 128 with
  | 0 => ⟨S16x1000000, .i32⟩
  | 1 => ⟨S16x1000000, .i32⟩
  | 2 => ⟨S16x1000000, .i32⟩
  | 3 => ⟨S_, .i32⟩
  | 4 => ⟨S16x1000000, .i32⟩
  | 5 => ⟨S16x1000000, .i32⟩
  | 6 => ⟨S_, .i32⟩
  | 7 => ⟨S16x1000000, .i32⟩
  | 8 => ⟨S16x1000000, .i32⟩
  | 9 => ⟨S16x1000000, .i32⟩
  | 10 => ⟨S16x1000000, .i32⟩
  | 11 => ⟨S16x1000000, .i32⟩
  | 12 => ⟨S_, .i32⟩
  | 13 => ⟨S16x1000000, .i32⟩
  | 14 => ⟨S16x1000000, .i32⟩
  | 15 => ⟨S_, .i32⟩
  | 16 => ⟨S16x1000000, .i32⟩
  | 17 => ⟨S16x1000000, .i32⟩
  | 18 => ⟨S16x1000000, .i32⟩
  | 19 => ⟨S16x1000000, .i32⟩
  | 20 => ⟨S16x1000000, .i32⟩
  | 21 => ⟨S16x1000000, .i32⟩
  | 22 => ⟨S16x1000000, .i32⟩
  | 23 => ⟨S16x1000000, .i32⟩
  | 24 => ⟨S_, .i32⟩
  | 25 => ⟨S16x1000000, .i32⟩
  | 26 => ⟨S16x1000000, .i32⟩
  | 27 => ⟨S16x1000000, .i32⟩
  | 28 => ⟨S_, .i32⟩
  | 29 => ⟨S16x1000000, .i32⟩
  | 30 => ⟨S16x1000000, .i32⟩
  | 31 => ⟨S_, .i32⟩
  | 32 => ⟨S16x1000000, .i32⟩
  | 33 => ⟨S16x1000000, .i32⟩
  | 34 => ⟨S16x1000000, .i32⟩
  | 35 => ⟨S16x1000000, .i32⟩
  | 36 => ⟨S16x1000000, .i32⟩
  | 37 => ⟨S_, .i32⟩
  | 38 => ⟨S16x1000000, .i32⟩
  | 39 => ⟨S16x1000000, .i32⟩
  | 40 => ⟨S_, .i32⟩
  | 41 => ⟨S16x1000000, .i32⟩
  | 42 => ⟨S16x1000000, .i32⟩
  | 43 => ⟨S16x1000000, .i32⟩
  | 44 => ⟨S16x1000000, .i32⟩
  | 45 => ⟨S16x1000000, .i32⟩
  | 46 => ⟨S_, .i32⟩
  | 47 => ⟨S16x1000000, .i32⟩
  | 48 => ⟨S16x1000000, .i32⟩
  | 49 => ⟨S_, .i32⟩
  | 50 => ⟨S16x1000000, .i32⟩
  | 51 => ⟨S16x1000000, .i32⟩
  | 52 => ⟨S16x1000000, .i32⟩
  | 53 => ⟨S16x1000000, .i32⟩
  | 54 => ⟨S16x1000000, .i32⟩
  | 55 => ⟨S_, .i32⟩
  | 56 => ⟨S16x1000000, .i32⟩
  | 57 => ⟨S16x1000000, .i32⟩
  | 58 => ⟨S_, .i32⟩
  | 59 => ⟨S16x1000000, .i32⟩
  | 60 => ⟨S16x1000000, .i32⟩
  | 61 => ⟨S16x1000000, .i32⟩
  | 62 => ⟨S16x1000000, .i32⟩
  | 63 => ⟨S16x1000000, .i32⟩
  | 64 => ⟨S16x1000000, .i32⟩
  | 65 => ⟨S16x1000000, .i32⟩
  | 66 => ⟨S16x1000000, .i32⟩
  | 67 => ⟨S_, .i32⟩
  | 68 => ⟨S16x1000000, .i32⟩
  | 69 => ⟨S16x1000000, .i32⟩
  | 70 => ⟨S16x1000000, .i32⟩
  | 71 => ⟨S_, .i32⟩
  | 72 => ⟨S16x1000000, .i32⟩
  | 73 => ⟨S16x1000000, .i32⟩
  | 74 => ⟨S_, .i32⟩
  | 75 => ⟨S16x1000000, .i32⟩
  | 76 => ⟨S16x1000000, .i32⟩
  | 77 => ⟨S16x1000000, .i32⟩
  | 78 => ⟨S16x1000000, .i32⟩
  | 79 => ⟨S16x1000000, .i32⟩
  | 80 => ⟨S_, .i32⟩
  | 81 => ⟨S16x1000000, .i32⟩
  | 82 => ⟨S16x1000000, .i32⟩
  | 83 => ⟨S_, .i32⟩
  | 84 => ⟨S16x1000000, .i32⟩
  | 85 => ⟨S16x1000000, .i32⟩
  | 86 => ⟨S16x1000000, .i32⟩
  | 87 => ⟨S16x1000000, .i32⟩
  | 88 => ⟨S16x1000000, .i32⟩
  | 89 => ⟨S_, .i32⟩
  | 90 => ⟨S16x1000000, .i32⟩
  | 91 => ⟨S16x1000000, .i32⟩
  | 92 => ⟨S_, .i32⟩
  | 93 => ⟨S16x1000000, .i32⟩
  | 94 => ⟨S16x1000000, .i32⟩
  | 95 => ⟨S16x1000000, .i32⟩
  | 96 => ⟨S16x1000000, .i32⟩
  | 97 => ⟨S16x1000000, .i32⟩
  | 98 => ⟨S_, .i32⟩
  | 99 => ⟨S16x1000000, .i32⟩
  | 100 => ⟨S16x1000000, .i32⟩
  | 101 => ⟨S_, .i32⟩
  | 102 => ⟨S16x1000000, .i32⟩
  | 103 => ⟨S16x1000000, .i32⟩
  | 104 => ⟨S16x1000000, .i32⟩
  | 105 => ⟨S16x1000000, .i32⟩
  | 106 => ⟨S16x1000000, .i32⟩
  | 107 => ⟨S16x1000000, .i32⟩
  | 108 => ⟨S16x1000000, .i32⟩
  | 109 => ⟨S16x1000000, .i32⟩
  | 110 => ⟨S_, .i32⟩
  | 111 => ⟨S16x1000000, .i32⟩
  | 112 => ⟨S16x1000000, .i32⟩
  | 113 => ⟨S16x1000000, .i32⟩
  | 114 => ⟨S_, .i32⟩
  | 115 => ⟨S16x1000000, .i32⟩
  | 116 => ⟨S16x1000000, .i32⟩
  | 117 => ⟨S_, .i32⟩
  | 118 => ⟨S16x1000000, .i32⟩
  | 119 => ⟨S16x1000000, .i32⟩
  | 120 => ⟨S16x1000000, .i32⟩
  | 121 => ⟨S16x1000000, .i32⟩
  | 122 => ⟨S16x1000000, .i32⟩
  | 123 => ⟨S_, .i32⟩
  | 124 => ⟨S16x1000000, .i32⟩
  | 125 => ⟨S16x1000000, .i32⟩
  | 126 => ⟨S_, .i32⟩
  | 127 => ⟨S16x1000000, .i32⟩
  | _ => ⟨S16x1000000, .f32⟩

abbrev hbmTy0_2 (i : Nat) : BufTy := match i % 128 with
  | 0 => ⟨S16x1000000, .i32⟩
  | 1 => ⟨S16x1000000, .i32⟩
  | 2 => ⟨S16x1000000, .i32⟩
  | 3 => ⟨S16x1000000, .i32⟩
  | 4 => ⟨S_, .i32⟩
  | 5 => ⟨S16x1000000, .i32⟩
  | 6 => ⟨S16x1000000, .i32⟩
  | 7 => ⟨S_, .i32⟩
  | 8 => ⟨S16x1000000, .i32⟩
  | 9 => ⟨S16x1000000, .i32⟩
  | 10 => ⟨S16x1000000, .i32⟩
  | 11 => ⟨S16x1000000, .i32⟩
  | 12 => ⟨S16x1000000, .i32⟩
  | 13 => ⟨S_, .i32⟩
  | 14 => ⟨S16x1000000, .i32⟩
  | 15 => ⟨S16x1000000, .i32⟩
  | 16 => ⟨S_, .i32⟩
  | 17 => ⟨S16x1000000, .i32⟩
  | 18 => ⟨S16x1000000, .i32⟩
  | 19 => ⟨S16x1000000, .i32⟩
  | 20 => ⟨S16x1000000, .i32⟩
  | 21 => ⟨S16x1000000, .i32⟩
  | 22 => ⟨S16x1000000, .i32⟩
  | 23 => ⟨S16x1000000, .i32⟩
  | 24 => ⟨S16x1000000, .i32⟩
  | 25 => ⟨S_, .i32⟩
  | 26 => ⟨S16x1000000, .i32⟩
  | 27 => ⟨S16x1000000, .i32⟩
  | 28 => ⟨S16x1000000, .i32⟩
  | 29 => ⟨S_, .i32⟩
  | 30 => ⟨S16x1000000, .i32⟩
  | 31 => ⟨S16x1000000, .i32⟩
  | 32 => ⟨S_, .i32⟩
  | 33 => ⟨S16x1000000, .i32⟩
  | 34 => ⟨S16x1000000, .i32⟩
  | 35 => ⟨S16x1000000, .i32⟩
  | 36 => ⟨S16x1000000, .i32⟩
  | 37 => ⟨S16x1000000, .i32⟩
  | 38 => ⟨S_, .i32⟩
  | 39 => ⟨S16x1000000, .i32⟩
  | 40 => ⟨S16x1000000, .i32⟩
  | 41 => ⟨S_, .i32⟩
  | 42 => ⟨S16x1000000, .i32⟩
  | 43 => ⟨S16x1000000, .i32⟩
  | 44 => ⟨S16x1000000, .i32⟩
  | 45 => ⟨S16x1000000, .i32⟩
  | 46 => ⟨S16x1000000, .i32⟩
  | 47 => ⟨S_, .i32⟩
  | 48 => ⟨S16x1000000, .i32⟩
  | 49 => ⟨S16x1000000, .i32⟩
  | 50 => ⟨S_, .i32⟩
  | 51 => ⟨S16x1000000, .i32⟩
  | 52 => ⟨S16x1000000, .i32⟩
  | 53 => ⟨S16x1000000, .i32⟩
  | 54 => ⟨S16x1000000, .i32⟩
  | 55 => ⟨S16x1000000, .i32⟩
  | 56 => ⟨S_, .i32⟩
  | 57 => ⟨S16x1000000, .i32⟩
  | 58 => ⟨S16x1000000, .i32⟩
  | 59 => ⟨S_, .i32⟩
  | 60 => ⟨S16x1000000, .i32⟩
  | 61 => ⟨S16x1000000, .i32⟩
  | 62 => ⟨S16x1000000, .i32⟩
  | 63 => ⟨S16x1000000, .i32⟩
  | 64 => ⟨S16x1000000, .i32⟩
  | 65 => ⟨S16x1000000, .i32⟩
  | 66 => ⟨S16x1000000, .i32⟩
  | 67 => ⟨S16x1000000, .i32⟩
  | 68 => ⟨S_, .i32⟩
  | 69 => ⟨S16x1000000, .i32⟩
  | 70 => ⟨S16x1000000, .i32⟩
  | 71 => ⟨S16x1000000, .i32⟩
  | 72 => ⟨S_, .i32⟩
  | 73 => ⟨S16x1000000, .i32⟩
  | 74 => ⟨S16x1000000, .i32⟩
  | 75 => ⟨S_, .i32⟩
  | 76 => ⟨S16x1000000, .i32⟩
  | 77 => ⟨S16x1000000, .i32⟩
  | 78 => ⟨S16x1000000, .f32⟩
  | 79 => ⟨S_, .f32⟩
  | 80 => ⟨S16x1000000, .f32⟩
  | 81 => ⟨S16x1000000, .f32⟩
  | 82 => ⟨S1x1, .f32⟩
  | 83 => ⟨S16x1000000, .f32⟩
  | 84 => ⟨S16x1000000, .f32⟩
  | 85 => ⟨S16x1000000, .f32⟩
  | 86 => ⟨S16x1000000, .f32⟩
  | 87 => ⟨S16x1000000, .f32⟩
  | 88 => ⟨S16x1000000, .f32⟩
  | 89 => ⟨S16x1000000, .f32⟩
  | 90 => ⟨S16x1000000, .f32⟩
  | 91 => ⟨S16x1000000, .f32⟩
  | 92 => ⟨S16x1000000, .f32⟩
  | 93 => ⟨S16x1000000, .f32⟩
  | 94 => ⟨S16x1000000, .i32⟩
  | 95 => ⟨S_, .f32⟩
  | 96 => ⟨S_, .i32⟩
  | 97 => ⟨S16, .f32⟩
  | 98 => ⟨S16, .i32⟩
  | 99 => ⟨S16x1, .i32⟩
  | 100 => ⟨S_, .i32⟩
  | 101 => ⟨S16x1, .i32⟩
  | 102 => ⟨S16x1, .i1⟩
  | 103 => ⟨S_, .i32⟩
  | 104 => ⟨S16x1, .i32⟩
  | 105 => ⟨S16x1, .i32⟩
  | 106 => ⟨S16x1, .i32⟩
  | 107 => ⟨S16x1x1, .i32⟩
  | 108 => ⟨S1, .i32⟩
  | 109 => ⟨S_, .i32⟩
  | 110 => ⟨S16x1x1, .i32⟩
  | 111 => ⟨S16x1x1, .i1⟩
  | 112 => ⟨S1x1x1, .i32⟩
  | 113 => ⟨S16x1x1, .i32⟩
  | 114 => ⟨S16x1x1, .i1⟩
  | 115 => ⟨S16x1x1, .i1⟩
  | 116 => ⟨S_, .i1⟩
  | 117 => ⟨S16x1, .i1⟩
  | 118 => ⟨S16x1, .i32⟩
  | 119 => ⟨S_, .i32⟩
  | 120 => ⟨S16x1, .i32⟩
  | 121 => ⟨S16x1, .i32⟩
  | 122 => ⟨S16, .i32⟩
  | _ => ⟨S16x1000000, .f32⟩

abbrev hbmTy (i : Nat) : BufTy := match i / 128 with
  | 0 => hbmTy0_0 i
  | 1 => hbmTy0_1 i
  | 2 => hbmTy0_2 i
  | _ => ⟨S16x1000000, .f32⟩

abbrev bufTy : (tb : Table) → Fin (tcTables nBuf tb) → BufTy
  | .hbm, ⟨i, _⟩ => hbmTy i
  | _, _ => ⟨S16x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_v1_0 : Ref sig .tc := ⟨.hbm, 20, rfl⟩
abbrev main_v14 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v15 : Ref sig .tc := ⟨.hbm, 43, rfl⟩
abbrev main_call2_call0_cst : Ref sig .tc := ⟨.hbm, 44, rfl⟩
abbrev main_call2_call0_v0 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_c : Ref sig .tc := ⟨.hbm, 50, rfl⟩
abbrev main_v19 : Ref sig .tc := ⟨.hbm, 51, rfl⟩
abbrev main_c_4 : Ref sig .tc := ⟨.hbm, 52, rfl⟩
abbrev main_v20 : Ref sig .tc := ⟨.hbm, 53, rfl⟩
abbrev main_v21 : Ref sig .tc := ⟨.hbm, 54, rfl⟩
abbrev main_cst_5 : Ref sig .tc := ⟨.hbm, 55, rfl⟩
abbrev main_call3_v0 : Ref sig .tc := ⟨.hbm, 56, rfl⟩
abbrev main_call3_v1 : Ref sig .tc := ⟨.hbm, 57, rfl⟩
abbrev main_v22 : Ref sig .tc := ⟨.hbm, 58, rfl⟩
abbrev main_cst_6 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_7 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_8 : Ref sig .tc := ⟨.hbm, 68, rfl⟩
abbrev main_call4_v0 : Ref sig .tc := ⟨.hbm, 69, rfl⟩
abbrev main_call4_v1 : Ref sig .tc := ⟨.hbm, 70, rfl⟩
abbrev main_v30 : Ref sig .tc := ⟨.hbm, 71, rfl⟩
abbrev main_c_9 : Ref sig .tc := ⟨.hbm, 72, rfl⟩
abbrev main_c_10 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_11 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_call5_cst : Ref sig .tc := ⟨.hbm, 82, rfl⟩
abbrev main_call5_cst_0 : Ref sig .tc := ⟨.hbm, 83, rfl⟩
abbrev main_call5_call0_v0 : Ref sig .tc := ⟨.hbm, 84, rfl⟩
abbrev main_call5_call0_v1 : Ref sig .tc := ⟨.hbm, 85, rfl⟩
abbrev main_call5_call0_v2 : Ref sig .tc := ⟨.hbm, 86, rfl⟩
abbrev main_call5_call0_v3 : Ref sig .tc := ⟨.hbm, 87, rfl⟩
abbrev main_call5_call0_v4 : Ref sig .tc := ⟨.hbm, 88, rfl⟩
abbrev main_call5_call0_v5 : Ref sig .tc := ⟨.hbm, 89, rfl⟩
abbrev main_call5_call0_v6 : Ref sig .tc := ⟨.hbm, 90, rfl⟩
abbrev main_call5_call0_v7 : Ref sig .tc := ⟨.hbm, 91, rfl⟩
abbrev main_call5_call0_v8 : Ref sig .tc := ⟨.hbm, 92, rfl⟩
abbrev main_call5_call0_c : Ref sig .tc := ⟨.hbm, 93, rfl⟩
abbrev main_call5_call0_v9 : Ref sig .tc := ⟨.hbm, 94, rfl⟩
abbrev main_call5_call0_v10 : Ref sig .tc := ⟨.hbm, 95, rfl⟩
abbrev main_call5_call0_c_0 : Ref sig .tc := ⟨.hbm, 96, rfl⟩
abbrev main_call5_call0_v11 : Ref sig .tc := ⟨.hbm, 97, rfl⟩
abbrev main_call5_call0_v12 : Ref sig .tc := ⟨.hbm, 98, rfl⟩
abbrev main_call5_call0_v13 : Ref sig .tc := ⟨.hbm, 99, rfl⟩
abbrev main_call5_call0_c_1 : Ref sig .tc := ⟨.hbm, 100, rfl⟩
abbrev main_call5_call0_v14 : Ref sig .tc := ⟨.hbm, 101, rfl⟩
abbrev main_call5_call0_v15 : Ref sig .tc := ⟨.hbm, 102, rfl⟩
abbrev main_call5_call0_v16 : Ref sig .tc := ⟨.hbm, 103, rfl⟩
abbrev main_call5_call0_v17 : Ref sig .tc := ⟨.hbm, 104, rfl⟩
abbrev main_call5_call0_call0_v0 : Ref sig .tc := ⟨.hbm, 105, rfl⟩
abbrev main_call5_call0_call0_c : Ref sig .tc := ⟨.hbm, 106, rfl⟩
abbrev main_call5_call0_call0_v1 : Ref sig .tc := ⟨.hbm, 107, rfl⟩
abbrev main_call5_call0_call0_v2 : Ref sig .tc := ⟨.hbm, 108, rfl⟩
abbrev main_call5_call0_call0_v3 : Ref sig .tc := ⟨.hbm, 109, rfl⟩
abbrev main_call5_call0_call0_v4 : Ref sig .tc := ⟨.hbm, 110, rfl⟩
abbrev main_call5_call0_call0_v5 : Ref sig .tc := ⟨.hbm, 111, rfl⟩
abbrev main_call5_call0_call0_v6 : Ref sig .tc := ⟨.hbm, 112, rfl⟩
abbrev main_call5_call0_call0_c_0 : Ref sig .tc := ⟨.hbm, 113, rfl⟩
abbrev main_call5_call0_call0_v7 : Ref sig .tc := ⟨.hbm, 114, rfl⟩
abbrev main_call5_call0_call0_v8 : Ref sig .tc := ⟨.hbm, 115, rfl⟩
abbrev main_call5_call0_call0_c_1 : Ref sig .tc := ⟨.hbm, 116, rfl⟩
abbrev main_call5_call0_call0_v9 : Ref sig .tc := ⟨.hbm, 117, rfl⟩
abbrev main_call5_call0_call0_v10 : Ref sig .tc := ⟨.hbm, 118, rfl⟩
abbrev main_call5_call0_call0_v11 : Ref sig .tc := ⟨.hbm, 119, rfl⟩
abbrev main_call5_call0_call0_v12 : Ref sig .tc := ⟨.hbm, 120, rfl⟩
abbrev main_call5_call0_call0_v13 : Ref sig .tc := ⟨.hbm, 121, rfl⟩
abbrev main_call5_call0_call0_c_2 : Ref sig .tc := ⟨.hbm, 122, rfl⟩
abbrev main_call5_call0_call0_v14 : Ref sig .tc := ⟨.hbm, 123, rfl⟩
abbrev main_call5_call0_call0_v15 : Ref sig .tc := ⟨.hbm, 124, rfl⟩
abbrev main_call5_call0_call0_c_3 : Ref sig .tc := ⟨.hbm, 125, rfl⟩
abbrev main_call5_call0_call0_v16 : Ref sig .tc := ⟨.hbm, 126, rfl⟩
abbrev main_call5_call0_call0_v17 : Ref sig .tc := ⟨.hbm, 127, rfl⟩
abbrev main_call5_call0_call0_v18 : Ref sig .tc := ⟨.hbm, 128, rfl⟩
abbrev main_call5_call0_call0_v19 : Ref sig .tc := ⟨.hbm, 129, rfl⟩
abbrev main_call5_call0_call0_v20 : Ref sig .tc := ⟨.hbm, 130, rfl⟩
abbrev main_call5_call0_call0_c_4 : Ref sig .tc := ⟨.hbm, 131, rfl⟩
abbrev main_call5_call0_call0_v21 : Ref sig .tc := ⟨.hbm, 132, rfl⟩
abbrev main_call5_call0_call0_v22 : Ref sig .tc := ⟨.hbm, 133, rfl⟩
abbrev main_call5_call0_call0_c_5 : Ref sig .tc := ⟨.hbm, 134, rfl⟩
abbrev main_call5_call0_call0_v23 : Ref sig .tc := ⟨.hbm, 135, rfl⟩
abbrev main_call5_call0_call0_v24 : Ref sig .tc := ⟨.hbm, 136, rfl⟩
abbrev main_call5_call0_call0_v25 : Ref sig .tc := ⟨.hbm, 137, rfl⟩
abbrev main_call5_call0_call0_v26 : Ref sig .tc := ⟨.hbm, 138, rfl⟩
abbrev main_call5_call0_call0_v27 : Ref sig .tc := ⟨.hbm, 139, rfl⟩
abbrev main_call5_call0_call0_c_6 : Ref sig .tc := ⟨.hbm, 140, rfl⟩
abbrev main_call5_call0_call0_v28 : Ref sig .tc := ⟨.hbm, 141, rfl⟩
abbrev main_call5_call0_call0_v29 : Ref sig .tc := ⟨.hbm, 142, rfl⟩
abbrev main_call5_call0_call0_c_7 : Ref sig .tc := ⟨.hbm, 143, rfl⟩
abbrev main_call5_call0_call0_v30 : Ref sig .tc := ⟨.hbm, 144, rfl⟩
abbrev main_call5_call0_call0_v31 : Ref sig .tc := ⟨.hbm, 145, rfl⟩
abbrev main_call5_call0_call0_v32 : Ref sig .tc := ⟨.hbm, 146, rfl⟩
abbrev main_call5_call0_call0_v33 : Ref sig .tc := ⟨.hbm, 147, rfl⟩
abbrev main_call5_call0_call0_v34 : Ref sig .tc := ⟨.hbm, 148, rfl⟩
abbrev main_call5_call0_call0_v35 : Ref sig .tc := ⟨.hbm, 149, rfl⟩
abbrev main_call5_call0_call0_v36 : Ref sig .tc := ⟨.hbm, 150, rfl⟩
abbrev main_call5_call0_call0_v37 : Ref sig .tc := ⟨.hbm, 151, rfl⟩
abbrev main_call5_call0_call0_c_8 : Ref sig .tc := ⟨.hbm, 152, rfl⟩
abbrev main_call5_call0_call0_v38 : Ref sig .tc := ⟨.hbm, 153, rfl⟩
abbrev main_call5_call0_call0_v39 : Ref sig .tc := ⟨.hbm, 154, rfl⟩
abbrev main_call5_call0_call0_v40 : Ref sig .tc := ⟨.hbm, 155, rfl⟩
abbrev main_call5_call0_call0_c_9 : Ref sig .tc := ⟨.hbm, 156, rfl⟩
abbrev main_call5_call0_call0_v41 : Ref sig .tc := ⟨.hbm, 157, rfl⟩
abbrev main_call5_call0_call0_v42 : Ref sig .tc := ⟨.hbm, 158, rfl⟩
abbrev main_call5_call0_call0_c_10 : Ref sig .tc := ⟨.hbm, 159, rfl⟩
abbrev main_call5_call0_call0_v43 : Ref sig .tc := ⟨.hbm, 160, rfl⟩
abbrev main_call5_call0_call0_v44 : Ref sig .tc := ⟨.hbm, 161, rfl⟩
abbrev main_call5_call0_call0_v45 : Ref sig .tc := ⟨.hbm, 162, rfl⟩
abbrev main_call5_call0_call0_v46 : Ref sig .tc := ⟨.hbm, 163, rfl⟩
abbrev main_call5_call0_call0_v47 : Ref sig .tc := ⟨.hbm, 164, rfl⟩
abbrev main_call5_call0_call0_c_11 : Ref sig .tc := ⟨.hbm, 165, rfl⟩
abbrev main_call5_call0_call0_v48 : Ref sig .tc := ⟨.hbm, 166, rfl⟩
abbrev main_call5_call0_call0_v49 : Ref sig .tc := ⟨.hbm, 167, rfl⟩
abbrev main_call5_call0_call0_c_12 : Ref sig .tc := ⟨.hbm, 168, rfl⟩
abbrev main_call5_call0_call0_v50 : Ref sig .tc := ⟨.hbm, 169, rfl⟩
abbrev main_call5_call0_call0_v51 : Ref sig .tc := ⟨.hbm, 170, rfl⟩
abbrev main_call5_call0_call0_v52 : Ref sig .tc := ⟨.hbm, 171, rfl⟩
abbrev main_call5_call0_call0_v53 : Ref sig .tc := ⟨.hbm, 172, rfl⟩
abbrev main_call5_call0_call0_v54 : Ref sig .tc := ⟨.hbm, 173, rfl⟩
abbrev main_call5_call0_call0_c_13 : Ref sig .tc := ⟨.hbm, 174, rfl⟩
abbrev main_call5_call0_call0_v55 : Ref sig .tc := ⟨.hbm, 175, rfl⟩
abbrev main_call5_call0_call0_v56 : Ref sig .tc := ⟨.hbm, 176, rfl⟩
abbrev main_call5_call0_call0_c_14 : Ref sig .tc := ⟨.hbm, 177, rfl⟩
abbrev main_call5_call0_call0_v57 : Ref sig .tc := ⟨.hbm, 178, rfl⟩
abbrev main_call5_call0_call0_v58 : Ref sig .tc := ⟨.hbm, 179, rfl⟩
abbrev main_call5_call0_call0_v59 : Ref sig .tc := ⟨.hbm, 180, rfl⟩
abbrev main_call5_call0_call0_v60 : Ref sig .tc := ⟨.hbm, 181, rfl⟩
abbrev main_call5_call0_call0_v61 : Ref sig .tc := ⟨.hbm, 182, rfl⟩
abbrev main_call5_call0_call0_c_15 : Ref sig .tc := ⟨.hbm, 183, rfl⟩
abbrev main_call5_call0_call0_v62 : Ref sig .tc := ⟨.hbm, 184, rfl⟩
abbrev main_call5_call0_call0_v63 : Ref sig .tc := ⟨.hbm, 185, rfl⟩
abbrev main_call5_call0_call0_c_16 : Ref sig .tc := ⟨.hbm, 186, rfl⟩
abbrev main_call5_call0_call0_v64 : Ref sig .tc := ⟨.hbm, 187, rfl⟩
abbrev main_call5_call0_call0_v65 : Ref sig .tc := ⟨.hbm, 188, rfl⟩
abbrev main_call5_call0_call0_v66 : Ref sig .tc := ⟨.hbm, 189, rfl⟩
abbrev main_call5_call0_call0_v67 : Ref sig .tc := ⟨.hbm, 190, rfl⟩
abbrev main_call5_call0_call0_v68 : Ref sig .tc := ⟨.hbm, 191, rfl⟩
abbrev main_call5_call0_call0_v69 : Ref sig .tc := ⟨.hbm, 192, rfl⟩
abbrev main_call5_call0_call0_v70 : Ref sig .tc := ⟨.hbm, 193, rfl⟩
abbrev main_call5_call0_call0_v71 : Ref sig .tc := ⟨.hbm, 194, rfl⟩
abbrev main_call5_call0_call0_c_17 : Ref sig .tc := ⟨.hbm, 195, rfl⟩
abbrev main_call5_call0_call0_v72 : Ref sig .tc := ⟨.hbm, 196, rfl⟩
abbrev main_call5_call0_call0_v73 : Ref sig .tc := ⟨.hbm, 197, rfl⟩
abbrev main_call5_call0_call0_v74 : Ref sig .tc := ⟨.hbm, 198, rfl⟩
abbrev main_call5_call0_call0_c_18 : Ref sig .tc := ⟨.hbm, 199, rfl⟩
abbrev main_call5_call0_call0_v75 : Ref sig .tc := ⟨.hbm, 200, rfl⟩
abbrev main_call5_call0_call0_v76 : Ref sig .tc := ⟨.hbm, 201, rfl⟩
abbrev main_call5_call0_call0_c_19 : Ref sig .tc := ⟨.hbm, 202, rfl⟩
abbrev main_call5_call0_call0_v77 : Ref sig .tc := ⟨.hbm, 203, rfl⟩
abbrev main_call5_call0_call0_v78 : Ref sig .tc := ⟨.hbm, 204, rfl⟩
abbrev main_call5_call0_call0_v79 : Ref sig .tc := ⟨.hbm, 205, rfl⟩
abbrev main_call5_call0_call0_v80 : Ref sig .tc := ⟨.hbm, 206, rfl⟩
abbrev main_call5_call0_call0_v81 : Ref sig .tc := ⟨.hbm, 207, rfl⟩
abbrev main_call5_call0_call0_c_20 : Ref sig .tc := ⟨.hbm, 208, rfl⟩
abbrev main_call5_call0_call0_v82 : Ref sig .tc := ⟨.hbm, 209, rfl⟩
abbrev main_call5_call0_call0_v83 : Ref sig .tc := ⟨.hbm, 210, rfl⟩
abbrev main_call5_call0_call0_c_21 : Ref sig .tc := ⟨.hbm, 211, rfl⟩
abbrev main_call5_call0_call0_v84 : Ref sig .tc := ⟨.hbm, 212, rfl⟩
abbrev main_call5_call0_call0_v85 : Ref sig .tc := ⟨.hbm, 213, rfl⟩
abbrev main_call5_call0_call0_v86 : Ref sig .tc := ⟨.hbm, 214, rfl⟩
abbrev main_call5_call0_call0_v87 : Ref sig .tc := ⟨.hbm, 215, rfl⟩
abbrev main_call5_call0_call0_v88 : Ref sig .tc := ⟨.hbm, 216, rfl⟩
abbrev main_call5_call0_call0_c_22 : Ref sig .tc := ⟨.hbm, 217, rfl⟩
abbrev main_call5_call0_call0_v89 : Ref sig .tc := ⟨.hbm, 218, rfl⟩
abbrev main_call5_call0_call0_v90 : Ref sig .tc := ⟨.hbm, 219, rfl⟩
abbrev main_call5_call0_call0_c_23 : Ref sig .tc := ⟨.hbm, 220, rfl⟩
abbrev main_call5_call0_call0_v91 : Ref sig .tc := ⟨.hbm, 221, rfl⟩
abbrev main_call5_call0_call0_v92 : Ref sig .tc := ⟨.hbm, 222, rfl⟩
abbrev main_call5_call0_call0_v93 : Ref sig .tc := ⟨.hbm, 223, rfl⟩
abbrev main_call5_call0_call0_v94 : Ref sig .tc := ⟨.hbm, 224, rfl⟩
abbrev main_call5_call0_call0_v95 : Ref sig .tc := ⟨.hbm, 225, rfl⟩
abbrev main_call5_call0_call0_c_24 : Ref sig .tc := ⟨.hbm, 226, rfl⟩
abbrev main_call5_call0_call0_v96 : Ref sig .tc := ⟨.hbm, 227, rfl⟩
abbrev main_call5_call0_call0_v97 : Ref sig .tc := ⟨.hbm, 228, rfl⟩
abbrev main_call5_call0_call0_c_25 : Ref sig .tc := ⟨.hbm, 229, rfl⟩
abbrev main_call5_call0_call0_v98 : Ref sig .tc := ⟨.hbm, 230, rfl⟩
abbrev main_call5_call0_call0_v99 : Ref sig .tc := ⟨.hbm, 231, rfl⟩
abbrev main_call5_call0_call0_v100 : Ref sig .tc := ⟨.hbm, 232, rfl⟩
abbrev main_call5_call0_call0_v101 : Ref sig .tc := ⟨.hbm, 233, rfl⟩
abbrev main_call5_call0_call0_v102 : Ref sig .tc := ⟨.hbm, 234, rfl⟩
abbrev main_call5_call0_call0_v103 : Ref sig .tc := ⟨.hbm, 235, rfl⟩
abbrev main_call5_call0_call0_v104 : Ref sig .tc := ⟨.hbm, 236, rfl⟩
abbrev main_call5_call0_call0_v105 : Ref sig .tc := ⟨.hbm, 237, rfl⟩
abbrev main_call5_call0_call0_c_26 : Ref sig .tc := ⟨.hbm, 238, rfl⟩
abbrev main_call5_call0_call0_v106 : Ref sig .tc := ⟨.hbm, 239, rfl⟩
abbrev main_call5_call0_call0_v107 : Ref sig .tc := ⟨.hbm, 240, rfl⟩
abbrev main_call5_call0_call0_v108 : Ref sig .tc := ⟨.hbm, 241, rfl⟩
abbrev main_call5_call0_call0_c_27 : Ref sig .tc := ⟨.hbm, 242, rfl⟩
abbrev main_call5_call0_call0_v109 : Ref sig .tc := ⟨.hbm, 243, rfl⟩
abbrev main_call5_call0_call0_v110 : Ref sig .tc := ⟨.hbm, 244, rfl⟩
abbrev main_call5_call0_call0_c_28 : Ref sig .tc := ⟨.hbm, 245, rfl⟩
abbrev main_call5_call0_call0_v111 : Ref sig .tc := ⟨.hbm, 246, rfl⟩
abbrev main_call5_call0_call0_v112 : Ref sig .tc := ⟨.hbm, 247, rfl⟩
abbrev main_call5_call0_call0_v113 : Ref sig .tc := ⟨.hbm, 248, rfl⟩
abbrev main_call5_call0_call0_v114 : Ref sig .tc := ⟨.hbm, 249, rfl⟩
abbrev main_call5_call0_call0_v115 : Ref sig .tc := ⟨.hbm, 250, rfl⟩
abbrev main_call5_call0_call0_c_29 : Ref sig .tc := ⟨.hbm, 251, rfl⟩
abbrev main_call5_call0_call0_v116 : Ref sig .tc := ⟨.hbm, 252, rfl⟩
abbrev main_call5_call0_call0_v117 : Ref sig .tc := ⟨.hbm, 253, rfl⟩
abbrev main_call5_call0_call0_c_30 : Ref sig .tc := ⟨.hbm, 254, rfl⟩
abbrev main_call5_call0_call0_v118 : Ref sig .tc := ⟨.hbm, 255, rfl⟩
abbrev main_call5_call0_call0_v119 : Ref sig .tc := ⟨.hbm, 256, rfl⟩
abbrev main_call5_call0_call0_v120 : Ref sig .tc := ⟨.hbm, 257, rfl⟩
abbrev main_call5_call0_call0_v121 : Ref sig .tc := ⟨.hbm, 258, rfl⟩
abbrev main_call5_call0_call0_v122 : Ref sig .tc := ⟨.hbm, 259, rfl⟩
abbrev main_call5_call0_call0_c_31 : Ref sig .tc := ⟨.hbm, 260, rfl⟩
abbrev main_call5_call0_call0_v123 : Ref sig .tc := ⟨.hbm, 261, rfl⟩
abbrev main_call5_call0_call0_v124 : Ref sig .tc := ⟨.hbm, 262, rfl⟩
abbrev main_call5_call0_call0_c_32 : Ref sig .tc := ⟨.hbm, 263, rfl⟩
abbrev main_call5_call0_call0_v125 : Ref sig .tc := ⟨.hbm, 264, rfl⟩
abbrev main_call5_call0_call0_v126 : Ref sig .tc := ⟨.hbm, 265, rfl⟩
abbrev main_call5_call0_call0_v127 : Ref sig .tc := ⟨.hbm, 266, rfl⟩
abbrev main_call5_call0_call0_v128 : Ref sig .tc := ⟨.hbm, 267, rfl⟩
abbrev main_call5_call0_call0_v129 : Ref sig .tc := ⟨.hbm, 268, rfl⟩
abbrev main_call5_call0_call0_c_33 : Ref sig .tc := ⟨.hbm, 269, rfl⟩
abbrev main_call5_call0_call0_v130 : Ref sig .tc := ⟨.hbm, 270, rfl⟩
abbrev main_call5_call0_call0_v131 : Ref sig .tc := ⟨.hbm, 271, rfl⟩
abbrev main_call5_call0_call0_c_34 : Ref sig .tc := ⟨.hbm, 272, rfl⟩
abbrev main_call5_call0_call0_v132 : Ref sig .tc := ⟨.hbm, 273, rfl⟩
abbrev main_call5_call0_call0_v133 : Ref sig .tc := ⟨.hbm, 274, rfl⟩
abbrev main_call5_call0_call0_v134 : Ref sig .tc := ⟨.hbm, 275, rfl⟩
abbrev main_call5_call0_call0_v135 : Ref sig .tc := ⟨.hbm, 276, rfl⟩
abbrev main_call5_call0_call0_v136 : Ref sig .tc := ⟨.hbm, 277, rfl⟩
abbrev main_call5_call0_call0_v137 : Ref sig .tc := ⟨.hbm, 278, rfl⟩
abbrev main_call5_call0_call0_v138 : Ref sig .tc := ⟨.hbm, 279, rfl⟩
abbrev main_call5_call0_call0_v139 : Ref sig .tc := ⟨.hbm, 280, rfl⟩
abbrev main_call5_call0_call0_c_35 : Ref sig .tc := ⟨.hbm, 281, rfl⟩
abbrev main_call5_call0_call0_v140 : Ref sig .tc := ⟨.hbm, 282, rfl⟩
abbrev main_call5_call0_call0_v141 : Ref sig .tc := ⟨.hbm, 283, rfl⟩
abbrev main_call5_call0_call0_v142 : Ref sig .tc := ⟨.hbm, 284, rfl⟩
abbrev main_call5_call0_call0_c_36 : Ref sig .tc := ⟨.hbm, 285, rfl⟩
abbrev main_call5_call0_call0_v143 : Ref sig .tc := ⟨.hbm, 286, rfl⟩
abbrev main_call5_call0_call0_v144 : Ref sig .tc := ⟨.hbm, 287, rfl⟩
abbrev main_call5_call0_call0_c_37 : Ref sig .tc := ⟨.hbm, 288, rfl⟩
abbrev main_call5_call0_call0_v145 : Ref sig .tc := ⟨.hbm, 289, rfl⟩
abbrev main_call5_call0_call0_v146 : Ref sig .tc := ⟨.hbm, 290, rfl⟩
abbrev main_call5_call0_call0_v147 : Ref sig .tc := ⟨.hbm, 291, rfl⟩
abbrev main_call5_call0_call0_v148 : Ref sig .tc := ⟨.hbm, 292, rfl⟩
abbrev main_call5_call0_call0_v149 : Ref sig .tc := ⟨.hbm, 293, rfl⟩
abbrev main_call5_call0_call0_c_38 : Ref sig .tc := ⟨.hbm, 294, rfl⟩
abbrev main_call5_call0_call0_v150 : Ref sig .tc := ⟨.hbm, 295, rfl⟩
abbrev main_call5_call0_call0_v151 : Ref sig .tc := ⟨.hbm, 296, rfl⟩
abbrev main_call5_call0_call0_c_39 : Ref sig .tc := ⟨.hbm, 297, rfl⟩
abbrev main_call5_call0_call0_v152 : Ref sig .tc := ⟨.hbm, 298, rfl⟩
abbrev main_call5_call0_call0_v153 : Ref sig .tc := ⟨.hbm, 299, rfl⟩
abbrev main_call5_call0_call0_v154 : Ref sig .tc := ⟨.hbm, 300, rfl⟩
abbrev main_call5_call0_call0_v155 : Ref sig .tc := ⟨.hbm, 301, rfl⟩
abbrev main_call5_call0_call0_v156 : Ref sig .tc := ⟨.hbm, 302, rfl⟩
abbrev main_call5_call0_call0_c_40 : Ref sig .tc := ⟨.hbm, 303, rfl⟩
abbrev main_call5_call0_call0_v157 : Ref sig .tc := ⟨.hbm, 304, rfl⟩
abbrev main_call5_call0_call0_v158 : Ref sig .tc := ⟨.hbm, 305, rfl⟩
abbrev main_call5_call0_call0_c_41 : Ref sig .tc := ⟨.hbm, 306, rfl⟩
abbrev main_call5_call0_call0_v159 : Ref sig .tc := ⟨.hbm, 307, rfl⟩
abbrev main_call5_call0_call0_v160 : Ref sig .tc := ⟨.hbm, 308, rfl⟩
abbrev main_call5_call0_call0_v161 : Ref sig .tc := ⟨.hbm, 309, rfl⟩
abbrev main_call5_call0_call0_v162 : Ref sig .tc := ⟨.hbm, 310, rfl⟩
abbrev main_call5_call0_call0_v163 : Ref sig .tc := ⟨.hbm, 311, rfl⟩
abbrev main_call5_call0_call0_c_42 : Ref sig .tc := ⟨.hbm, 312, rfl⟩
abbrev main_call5_call0_call0_v164 : Ref sig .tc := ⟨.hbm, 313, rfl⟩
abbrev main_call5_call0_call0_v165 : Ref sig .tc := ⟨.hbm, 314, rfl⟩
abbrev main_call5_call0_call0_c_43 : Ref sig .tc := ⟨.hbm, 315, rfl⟩
abbrev main_call5_call0_call0_v166 : Ref sig .tc := ⟨.hbm, 316, rfl⟩
abbrev main_call5_call0_call0_v167 : Ref sig .tc := ⟨.hbm, 317, rfl⟩
abbrev main_call5_call0_call0_v168 : Ref sig .tc := ⟨.hbm, 318, rfl⟩
abbrev main_call5_call0_call0_v169 : Ref sig .tc := ⟨.hbm, 319, rfl⟩
abbrev main_call5_call0_call0_v170 : Ref sig .tc := ⟨.hbm, 320, rfl⟩
abbrev main_call5_call0_v18_0 : Ref sig .tc := ⟨.hbm, 321, rfl⟩
abbrev main_call5_call0_call0_v172 : Ref sig .tc := ⟨.hbm, 322, rfl⟩
abbrev main_call5_call0_call0_v173 : Ref sig .tc := ⟨.hbm, 323, rfl⟩
abbrev main_call5_call0_call0_c_44 : Ref sig .tc := ⟨.hbm, 324, rfl⟩
abbrev main_call5_call0_call0_v174 : Ref sig .tc := ⟨.hbm, 325, rfl⟩
abbrev main_call5_call0_v18_1 : Ref sig .tc := ⟨.hbm, 326, rfl⟩
abbrev main_call5_call0_v19 : Ref sig .tc := ⟨.hbm, 327, rfl⟩
abbrev main_call5_call0_c_2 : Ref sig .tc := ⟨.hbm, 328, rfl⟩
abbrev main_call5_call0_v20 : Ref sig .tc := ⟨.hbm, 329, rfl⟩
abbrev main_call5_call0_v21 : Ref sig .tc := ⟨.hbm, 330, rfl⟩
abbrev main_call5_call0_c_3 : Ref sig .tc := ⟨.hbm, 331, rfl⟩
abbrev main_call5_call0_v22 : Ref sig .tc := ⟨.hbm, 332, rfl⟩
abbrev main_call5_call0_v23 : Ref sig .tc := ⟨.hbm, 333, rfl⟩
abbrev main_call5_call0_v24 : Ref sig .tc := ⟨.hbm, 334, rfl⟩
abbrev main_call5_call0_cst : Ref sig .tc := ⟨.hbm, 335, rfl⟩
abbrev main_call5_call0_v25 : Ref sig .tc := ⟨.hbm, 336, rfl⟩
abbrev main_call5_call0_v26 : Ref sig .tc := ⟨.hbm, 337, rfl⟩
abbrev main_call5_call0_v27 : Ref sig .tc := ⟨.hbm, 338, rfl⟩
abbrev main_call5_call0_v28 : Ref sig .tc := ⟨.hbm, 339, rfl⟩
abbrev main_call5_call0_v29 : Ref sig .tc := ⟨.hbm, 340, rfl⟩
abbrev main_call5_call0_v30 : Ref sig .tc := ⟨.hbm, 341, rfl⟩
abbrev main_call5_call0_v31 : Ref sig .tc := ⟨.hbm, 342, rfl⟩
abbrev main_call5_call0_v32 : Ref sig .tc := ⟨.hbm, 343, rfl⟩
abbrev main_call5_v0 : Ref sig .tc := ⟨.hbm, 344, rfl⟩
abbrev main_call5_v1 : Ref sig .tc := ⟨.hbm, 345, rfl⟩
abbrev main_call5_v2 : Ref sig .tc := ⟨.hbm, 346, rfl⟩
abbrev main_call5_v3 : Ref sig .tc := ⟨.hbm, 347, rfl⟩
abbrev main_v38 : Ref sig .tc := ⟨.hbm, 348, rfl⟩
abbrev main_v39 : Ref sig .tc := ⟨.hbm, 349, rfl⟩
abbrev main_call6_v0 : Ref sig .tc := ⟨.hbm, 350, rfl⟩
abbrev main_call6_cst : Ref sig .tc := ⟨.hbm, 351, rfl⟩
abbrev main_call6_c : Ref sig .tc := ⟨.hbm, 352, rfl⟩
abbrev main_call6_v1_0 : Ref sig .tc := ⟨.hbm, 353, rfl⟩
abbrev main_v40 : Ref sig .tc := ⟨.hbm, 354, rfl⟩
abbrev main_v41 : Ref sig .tc := ⟨.hbm, 355, rfl⟩
abbrev main_call7_c : Ref sig .tc := ⟨.hbm, 356, rfl⟩
abbrev main_call7_v0 : Ref sig .tc := ⟨.hbm, 357, rfl⟩
abbrev main_call7_v1 : Ref sig .tc := ⟨.hbm, 358, rfl⟩
abbrev main_call7_c_0 : Ref sig .tc := ⟨.hbm, 359, rfl⟩
abbrev main_call7_v2 : Ref sig .tc := ⟨.hbm, 360, rfl⟩
abbrev main_call7_v3 : Ref sig .tc := ⟨.hbm, 361, rfl⟩
abbrev main_call7_v4 : Ref sig .tc := ⟨.hbm, 362, rfl⟩
abbrev main_call7_v5 : Ref sig .tc := ⟨.hbm, 363, rfl⟩
abbrev main_call7_c_1 : Ref sig .tc := ⟨.hbm, 364, rfl⟩
abbrev main_call7_c_2 : Ref sig .tc := ⟨.hbm, 365, rfl⟩
abbrev main_call7_v6 : Ref sig .tc := ⟨.hbm, 366, rfl⟩
abbrev main_call7_v7 : Ref sig .tc := ⟨.hbm, 367, rfl⟩
abbrev main_call7_v8 : Ref sig .tc := ⟨.hbm, 368, rfl⟩
abbrev main_call7_v9 : Ref sig .tc := ⟨.hbm, 369, rfl⟩
abbrev main_call7_v10 : Ref sig .tc := ⟨.hbm, 370, rfl⟩
abbrev main_call7_v11 : Ref sig .tc := ⟨.hbm, 371, rfl⟩
abbrev main_call7_c_3 : Ref sig .tc := ⟨.hbm, 372, rfl⟩
abbrev main_call7_v12 : Ref sig .tc := ⟨.hbm, 373, rfl⟩
abbrev main_call7_v13 : Ref sig .tc := ⟨.hbm, 374, rfl⟩
abbrev main_call7_c_4 : Ref sig .tc := ⟨.hbm, 375, rfl⟩
abbrev main_call7_v14 : Ref sig .tc := ⟨.hbm, 376, rfl⟩
abbrev main_v42 : Ref sig .tc := ⟨.hbm, 377, rfl⟩
abbrev main_v43 : Ref sig .tc := ⟨.hbm, 378, rfl⟩

abbrev nD : Nat := 1
abbrev τ : Topo := Topo.v7x

variable {F : FTy → Type} [FloatOps F]
-- ==== Proof.RefRun.lean ====
/- The reference program's run: it is a straight line of host operations, some of them inside called functions. -/
module

public import proofs.«01_k».proof.Defs
public import Idealize.ShloMosaic.Lib.StableHlo.RunHlo
public import Idealize.ShloMosaic.Lib.Claim
public import Idealize.ShloMosaic.Adequacy
public import Idealize.ShloMosaic.Init
public import proofs.«01_k».proof.Proof.Gen.ReferenceIdeal

@[expose] public section

set_option maxRecDepth 16384

noncomputable section

namespace Cert.ReferenceIdeal

open Idealize.ShloMosaic Idealize.SL.Sem Idealize.ShloMosaic.StableHlo

/-- A program that is one straight line after another is the straight line of both lists of operations. -/
theorem IsSeq.append {nD : Nat} {τ : Topo} {sig : RefSig} {Val : EltTy → Type} {Λ : Labels}
    {p q : Prog (TpuEff nD τ sig Val Λ .tc) PUnit} {xs ys : List (HloOp τ sig Val)}
    (hp : IsSeq p xs) (hq : IsSeq q ys) : IsSeq (p >>= fun _ => q) (xs ++ ys) := by
  unfold IsSeq at hp hq ⊢
  rw [hp, hq, seq_append]

variable {F : FTy → Type} [FloatOps F] [hF : Facts]

/-- A program's straight line: the list of its operations with the proof that running them one by one is the program. -/
abbrev Line {nD : Nat} {τ : Topo} {sig : RefSig} {Val : EltTy → Type} {Λ : Labels}
    (p : Prog (TpuEff nD τ sig Val Λ .tc) PUnit) :=
  {ops : List (HloOp τ sig Val) // IsSeq p ops}

/-- The operations of the index sort. -/
def argsortLine (x : TRef sig ⟨S16x1000000, .f32⟩) (φ : fn_argsort.Bufs) : Line (fn_argsort.body (F := F) x φ) := by
  apply Subtype.mk
  · unfold fn_argsort.body; hlo_seq

/-- The operations of the gather along each row. -/
def takeLine (x : TRef sig ⟨S16x1000000, .f32⟩) (y : TRef sig ⟨S16x1000000, .i32⟩) (φ : fn_take_along_axis.Bufs) :
    Line (fn_take_along_axis.body (F := F) x y φ) := by
  apply Subtype.mk
  · unfold fn_take_along_axis.body; hlo_seq

/-- The operations of the running sum. -/
def cumsumLine (x : TRef sig ⟨S16x1000000, .f32⟩) (φ : fn_cumsum.Bufs) : Line (fn_cumsum.body (F := F) x φ) := by
  apply Subtype.mk
  · unfold fn_cumsum.body fn_cumsum_0.body; hlo_seq

/-- The operations of a choice between an array and a constant. -/
def whereLine (x : TRef sig ⟨S16x1000000, .i1⟩) (y : TRef sig ⟨S16x1000000, .f32⟩) (z : TRef sig ⟨S_, .f32⟩) (φ : fn_where.Bufs) :
    Line (fn_where.body (F := F) x y z φ) := by
  apply Subtype.mk
  · unfold fn_where.body; hlo_seq

/-- The operations of the counter-based hash. -/
def threefryLine (x y : TRef sig ⟨S_, .i32⟩) (u v : TRef sig ⟨S16x1000000, .i32⟩) (φ : fn_threefry2x32.Bufs) :
    Line (fn_threefry2x32.body (F := F) x y u v φ) := by
  apply Subtype.mk
  · unfold fn_threefry2x32.body
    apply IsSeq.append
    · unfold fn_threefry2x32.body_part0; hlo_seq
    apply IsSeq.append
    · unfold fn_threefry2x32.body_part1; hlo_seq
    apply IsSeq.append
    · unfold fn_threefry2x32.body_part2; hlo_seq
    · unfold fn_threefry2x32.body_part3; hlo_seq

/-- The operations of the uniform draw. -/
def uniformLine (x : TRef sig ⟨S2, .i32⟩) (y z : TRef sig ⟨S_, .f32⟩) (φ : fn_uniform.Bufs) :
    Line (fn_uniform.body (F := F) x y z φ) := by
  apply Subtype.mk
  · unfold fn_uniform.body
    repeat (first | exact IsSeq.nil | (with_reducible apply IsSeq.append (threefryLine _ _ _ _ _).2) | apply IsSeq.cons)

/-- The operations of the noise draw. -/
def gumbelLine (x : TRef sig ⟨S2, .i32⟩) (φ : fn_gumbel.Bufs) : Line (fn_gumbel.body (F := F) x φ) := by
  apply Subtype.mk
  · unfold fn_gumbel.body
    repeat (first | exact IsSeq.nil | (with_reducible apply IsSeq.append (uniformLine _ _ _ _).2) | apply IsSeq.cons)

/-- The operations of the first index of the maximum. -/
def argmaxLine (x : TRef sig ⟨S16x1000000, .f32⟩) (φ : fn_argmax.Bufs) : Line (fn_argmax.body (F := F) x φ) := by
  apply Subtype.mk
  · unfold fn_argmax.body; hlo_seq

/-- The operations of the read of one index in each row. -/
def pickLine (x : TRef sig ⟨S16x1000000, .i32⟩) (y : TRef sig ⟨S16x1, .i32⟩) (φ : fn_take_along_axis_1.Bufs) :
    Line (fn_take_along_axis_1.body (F := F) x y φ) := by
  apply Subtype.mk
  · unfold fn_take_along_axis_1.body; hlo_seq

/-- The operations of the whole reference. -/
def mainLine (d : Dev nD) : Line (main (F := F) d) := by
  apply Subtype.mk
  · unfold main
    repeat first
      | exact IsSeq.nil
      | (with_reducible apply IsSeq.append (argsortLine _ _).2)
      | (with_reducible apply IsSeq.append (takeLine _ _ _).2)
      | (with_reducible apply IsSeq.append (cumsumLine _ _).2)
      | (with_reducible apply IsSeq.append (whereLine _ _ _ _).2)
      | (with_reducible apply IsSeq.append (gumbelLine _ _).2)
      | (with_reducible apply IsSeq.append (argmaxLine _ _).2)
      | (with_reducible apply IsSeq.append (pickLine _ _ _).2)
      | apply IsSeq.cons

/-- Every operation of the reference touches unscoped buffers only. -/
theorem mainLine_sub (d : Dev nD) : (mainLine (F := F) d).1.Forall fun op => op.bufs ⊆ tcRefs τ sig := by
  simp [mainLine, argsortLine, takeLine, cumsumLine, whereLine, gumbelLine, argmaxLine, pickLine, uniformLine, threefryLine]

/-- No operation of the reference allocates. -/
theorem mainLine_fresh (d : Dev nD) : ∀ op ∈ (mainLine (F := F) d).1, op.fresh = ∅ := by
  intro _ h
  (repeat (cases h with | head => rfl | tail _ h => ?_))
  exact nomatch h

end Cert.ReferenceIdeal

end
-- ==== Proof.RefFrame.lean ====
/- The reference terminates, leaves its argument alone and ends with no semaphore raised. -/
module

public import proofs.«01_k».proof.Proof.RefRun

@[expose] public section

set_option maxRecDepth 16384

noncomputable section

namespace Cert.ReferenceIdeal

open Idealize.ShloMosaic Idealize.SL.Sem Idealize.ShloMosaic.StableHlo

variable {F : FTy → Type} [FloatOps F] [hF : Facts]

/-- No operation of the reference writes the argument. -/
theorem mainLine_keeps (d : Dev nD) : ∀ op ∈ (mainLine (F := F) d).1, Proc.devRef (τ := τ) .tc main_arg0 ∉ op.writes := by
  intro _ h
  (repeat (cases h with | head => exact fun hb => devRef_ne_of_ne (by decide) (Finset.mem_singleton.mp hb) | tail _ h => ?_))
  exact nomatch h

/-- The reference's run: every buffer ends at what its operations leave, one after the other. -/
theorem main_run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = after (mainLine (F := F) d).1 (launchContents m d) (Proc.devRef .tc b) :=
  run_seq (by decide) (by decide) defs main (fun d => (mainLine d).1) (fun d => (mainLine d).2) mainLine_sub m ρ mainLine_fresh

/-- The argument buffer ends as it began. -/
theorem main_arg (m : (ℓ : Loc nD τ sig) → Buf (Elt F) ℓ) (d : Dev nD) :
    after (mainLine (F := F) d).1 (launchContents m d) (Proc.devRef .tc main_arg0) = m ((d.tc : Thread nD τ).loc main_arg0) :=
  after_of_forall_not_mem _ _ (mainLine_keeps d)

/-- The frame of the reference: it terminates, its argument ends unchanged, every counter ends at zero. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun r h => ⟨fun c => (h c main_arg0).trans (main_arg m c),
    sem_eq_zero_of_no_sems (by decide) r.2⟩) (main_run m ρ)

end Cert.ReferenceIdeal

end
-- ==== Proof.Network.lean ====
/- The sorting network of the kernel's body, written as one exchange at a distance `2 ^ D` along the rows of a square
   and two masks (by a bit of the row, by a bit of the lane), and folds of it. -/
module

public import proofs.«01_k».proof.Proof.Gen.KernelIdeal.Frame

@[expose] public section

set_option maxRecDepth 16384

noncomputable section

namespace Cert.Body

open Idealize.ShloMosaic

variable {F : FTy → Type} [FloatOps F]

/-- The square a row of scores is laid out in. -/
abbrev Sq : Shape := ⟨2, ![1024, 1024]⟩
/-- The square with its rows cut into pairs of half blocks of `2 ^ D` rows. -/
abbrev Pairs (D : ℕ) : Shape := ⟨4, ![512 / 2 ^ D, 2, 2 ^ D, 1024]⟩
/-- One member of every pair, its pair axis kept. -/
abbrev Member (D : ℕ) : Shape := ⟨4, ![512 / 2 ^ D, 1, 2 ^ D, 1024]⟩
/-- One member of every pair. -/
abbrev Half (D : ℕ) : Shape := ⟨3, ![512 / 2 ^ D, 2 ^ D, 1024]⟩
/-- One word per pair of half blocks. -/
abbrev Groups (D : ℕ) : Shape := ⟨3, ![512 / 2 ^ D, 1, 1]⟩
/-- One word per lane. -/
abbrev Lanes : Shape := ⟨3, ![1, 1, 1024]⟩

theorem sq_pairs : ∀ D : Fin 10, Sq.ShapeCasts (Pairs D) := by decide +kernel
theorem pairs_sq : ∀ D : Fin 10, (Pairs D).ShapeCasts Sq := by decide +kernel
theorem pairs_lo : ∀ D : Fin 10, (Pairs D).Slices ![0, 0, 0, 0] (Member D) := by decide +kernel
theorem pairs_hi : ∀ D : Fin 10, (Pairs D).Slices ![0, 1, 0, 0] (Member D) := by decide +kernel
theorem member_half : ∀ D : Fin 10, (Member D).ShapeCasts (Half D) := by decide +kernel
theorem half_member : ∀ D : Fin 10, (Half D).ShapeCasts (Member D) := by decide +kernel
theorem members_join : ∀ D : Fin 10, Shape.Concatenates [Member D, Member D] (Pairs D) 1 := by decide +kernel
theorem groups_iota : ∀ D : Fin 10, (Groups D).Iotas .tc 32 [0] := by decide +kernel
theorem groups_self : ∀ D : Fin 10, (Groups D).ShapeCasts (Groups D) := by decide +kernel
theorem groups_half : ∀ D : Fin 10, (Groups D).Broadcasts (Half D) := by decide +kernel
theorem lanes_iota : Lanes.Iotas .tc 32 [2] := by decide +kernel
theorem lanes_self : Lanes.ShapeCasts Lanes := by decide +kernel
theorem lanes_half : ∀ D : Fin 10, Lanes.Broadcasts (Half D) := by decide +kernel
theorem sq_transposes : Sq.Transposes [1, 0] Sq := by decide +kernel

/-- The mask «bit `k` of the row is set», one word per pair of half blocks of `2 ^ D` rows. -/
def byRow (k : ℕ) (D : Fin 10) : IVec (Half D) 1 :=
  broadcastTo (Half D) (shapeCast (Groups D) (cmpi .ne (andi (muli (iota .tc (Groups D) 32 [0] (groups_iota D))
    (broadcast (Groups D) (BitVec.ofNat 32 (2 * 2 ^ D.val)))) (broadcast (Groups D) (BitVec.ofNat 32 (2 ^ k))))
    (broadcast (Groups D) 0#32)) (groups_self D)) (groups_half D)

/-- The mask «bit `k` of the lane is set». -/
def byLane (k : ℕ) (D : Fin 10) : IVec (Half D) 1 :=
  broadcastTo (Half D) (shapeCast Lanes (cmpi .ne (andi (iota .tc Lanes 32 [2] lanes_iota)
    (broadcast Lanes (BitVec.ofNat 32 (2 ^ k)))) (broadcast Lanes 0#32)) lanes_self) (lanes_half D)

/-- The earlier members of the pairs at distance `2 ^ D`. -/
def lower (D : Fin 10) (x : FVec F Sq .f32) : FVec F (Half D) .f32 :=
  shapeCast (Half D) (extractStridedSlice (Member D) ![0, 0, 0, 0] (shapeCast (Pairs D) x (sq_pairs D)) (pairs_lo D)) (member_half D)

/-- The later members of the pairs at distance `2 ^ D`. -/
def upper (D : Fin 10) (x : FVec F Sq .f32) : FVec F (Half D) .f32 :=
  shapeCast (Half D) (extractStridedSlice (Member D) ![0, 1, 0, 0] (shapeCast (Pairs D) x (sq_pairs D)) (pairs_hi D)) (member_half D)

/-- The square whose pairs have the members `a` and `b`. -/
def rejoin (D : Fin 10) (a b : FVec F (Half D) .f32) : FVec F Sq .f32 :=
  shapeCast Sq (concatenate (Pairs D) 1 [⟨Member D, shapeCast (Member D) a (half_member D)⟩, ⟨Member D, shapeCast (Member D) b (half_member D)⟩]
    (members_join D)) (pairs_sq D)

/-- One exchange at distance `2 ^ D` along the rows: the lesser entry first where the mask is set, the greater first elsewhere. -/
def exchange (D : Fin 10) (mask : IVec (Half D) 1) (x : FVec F Sq .f32) : FVec F Sq .f32 :=
  rejoin D (select mask (minimumf (lower D x) (upper D x)) (maximumf (lower D x) (upper D x)))
    (select mask (maximumf (lower D x) (upper D x)) (minimumf (lower D x) (upper D x)))

/-- The exchanges at distances `2 ^ (n − 1)`, …, `2`, `1`. -/
def sweep (mask : (D : Fin 10) → IVec (Half D) 1) : (n : ℕ) → n ≤ 10 → FVec F Sq .f32 → FVec F Sq .f32
  | 0, _, x => x
  | n + 1, h, x => sweep mask n (Nat.le_of_succ_le h) (exchange ⟨n, h⟩ (mask ⟨n, h⟩) x)

/-- The square's rows as lanes. -/
def flip (x : FVec F Sq .f32) : FVec F Sq .f32 := transpose Sq [1, 0] x sq_transposes

/-- The first `n` levels, on the flipped square: level `k` sorts blocks of `2 ^ (k + 1)` rows, in directions that alternate. -/
def shortLevels : (n : ℕ) → n ≤ 9 → FVec F Sq .f32 → FVec F Sq .f32
  | 0, _, x => x
  | n + 1, h, x => sweep (byRow (n + 1)) (n + 1) (by omega) (shortLevels n (by omega) x)

/-- The levels of blocks longer than a row: the far distances on the square, the near ones on the flipped square. -/
def longLevels : (n : ℕ) → n ≤ 10 → FVec F Sq .f32 → FVec F Sq .f32
  | 0, _, x => x
  | n + 1, h, x => flip (sweep (byLane (n + 1)) 10 (by omega) (flip (sweep (byRow (n + 1)) (n + 1) h (longLevels n (by omega) x))))

/-- The body's sort. -/
def sorted (x : FVec F Sq .f32) : FVec F Sq .f32 :=
  longLevels 10 (by omega) (flip (sweep (byLane 0) 10 (by omega) (shortLevels 9 (by omega) (flip x))))

end Cert.Body
end
-- ==== Proof.Tail.lean ====
/- What the kernel's body computes from the sorted square: the probabilities, the nucleus mask, the renormalised
   probabilities, and the index of the token drawn. -/
module

public import proofs.«01_k».proof.Proof.Network

@[expose] public section

set_option maxRecDepth 16384

noncomputable section

namespace Cert.Body

open Idealize.ShloMosaic Cert.KernelIdeal Cert.KernelIdeal.Facts₀

variable {F : FTy → Type} [FloatOps F]

theorem col_slices : ∀ k : Fin 10, (⟨2, ![1024, 1]⟩ : Shape).Slices ![0, 0] ⟨2, ![1024 - 2 ^ k.val, 1]⟩ := by decide +kernel
theorem col_join : ∀ k : Fin 10, Shape.Concatenates [⟨2, ![2 ^ k.val, 1]⟩, ⟨2, ![1024 - 2 ^ k.val, 1]⟩] (⟨2, ![1024, 1]⟩ : Shape) 0 := by decide +kernel
theorem row_slices : ∀ k : Fin 10, (⟨2, ![1, 1024]⟩ : Shape).Slices ![0, 0] ⟨2, ![1, 1024 - 2 ^ k.val]⟩ := by decide +kernel
theorem row_join : ∀ k : Fin 10, Shape.Concatenates [⟨2, ![1, 2 ^ k.val]⟩, ⟨2, ![1, 1024 - 2 ^ k.val]⟩] (⟨2, ![1, 1024]⟩ : Shape) 1 := by decide +kernel

/-- Zero. -/
def zero : F .f32 := Scalar.ofBits .f32 0x00000000#32
/-- One. -/
def one : F .f32 := Scalar.ofBits .f32 0x3F800000#32

/-- A column plus itself shifted down by `2 ^ k` rows. -/
def colStep (k : Fin 10) (x : FVec F S1024x1 .f32) : FVec F S1024x1 .f32 :=
  addf x (concatenate S1024x1 0 [⟨⟨2, ![2 ^ k.val, 1]⟩, broadcast ⟨2, ![2 ^ k.val, 1]⟩ zero⟩,
    ⟨⟨2, ![1024 - 2 ^ k.val, 1]⟩, extractStridedSlice ⟨2, ![1024 - 2 ^ k.val, 1]⟩ ![0, 0] x (col_slices k)⟩] (col_join k))

/-- A row plus itself shifted right by `2 ^ k` lanes. -/
def rowStep (k : Fin 10) (x : FVec F S1x1024 .f32) : FVec F S1x1024 .f32 :=
  addf x (concatenate S1x1024 1 [⟨⟨2, ![1, 2 ^ k.val]⟩, broadcast ⟨2, ![1, 2 ^ k.val]⟩ zero⟩,
    ⟨⟨2, ![1, 1024 - 2 ^ k.val]⟩, extractStridedSlice ⟨2, ![1, 1024 - 2 ^ k.val]⟩ ![0, 0] x (row_slices k)⟩] (row_join k))

/-- The first `n` shifted additions down a column. -/
def colSums : (n : ℕ) → n ≤ 10 → FVec F S1024x1 .f32 → FVec F S1024x1 .f32
  | 0, _, x => x
  | n + 1, h, x => colStep ⟨n, h⟩ (colSums n (by omega) x)

/-- The first `n` shifted additions along a row. -/
def rowSums : (n : ℕ) → n ≤ 10 → FVec F S1x1024 .f32 → FVec F S1x1024 .f32
  | 0, _, x => x
  | n + 1, h, x => rowStep ⟨n, h⟩ (rowSums n (by omega) x)

/-- The sum of a square's entries. -/
def total (x : FVec F Sq .f32) : F .f32 :=
  extractAt ![0, 0, 0] (shapeCast S1x1x1 (multiReduction .add [1, 2] S1 (shapeCast S1x1024x1024 x shapeCasts_S1024x1024_S1x1024x1024)
    0x00000000#32 reduces_S1x1024x1024_S1 (.inl rfl) rfl) shapeCasts_S1_S1x1x1) inpos_S1x1x1_p0_0_0
/-- The greatest of a square's entries. -/
def greatest (x : FVec F Sq .f32) : F .f32 :=
  extractAt ![0, 0, 0] (shapeCast S1x1x1 (multiReduction .maximumf [1, 2] S1 (shapeCast S1x1024x1024 x shapeCasts_S1024x1024_S1x1024x1024)
    0xFF800000#32 reduces_S1x1024x1024_S1 (.inl rfl) rfl) shapeCasts_S1_S1x1x1) inpos_S1x1x1_p0_0_0
/-- The least of a square's entries. -/
def least (x : FVec F Sq .f32) : F .f32 :=
  extractAt ![0, 0, 0] (shapeCast S1x1x1 (multiReduction .minimumf [1, 2] S1 (shapeCast S1x1024x1024 x shapeCasts_S1024x1024_S1x1024x1024)
    0x7F800000#32 reduces_S1x1024x1024_S1 (.inl rfl) rfl) shapeCasts_S1_S1x1x1) inpos_S1x1x1_p0_0_0
/-- The sum of a column's entries. -/
def colTotal (x : FVec F S1024x1 .f32) : F .f32 :=
  extractAt ![0, 0, 0] (shapeCast S1x1x1 (multiReduction .add [1, 2] S1 (shapeCast S1x1024x1 x shapeCasts_S1024x1_S1x1024x1)
    0x00000000#32 reduces_S1x1024x1_S1 (.inl rfl) rfl) shapeCasts_S1_S1x1x1) inpos_S1x1x1_p0_0_0
/-- The greatest of a row's entries. -/
def rowGreatest (x : FVec F S1x1024 .f32) : F .f32 :=
  extractAt ![0, 0, 0] (shapeCast S1x1x1 (multiReduction .maximumf [1, 2] S1 (shapeCast S1x1x1024 x shapeCasts_S1x1024_S1x1x1024)
    0xFF800000#32 reduces_S1x1x1024_S1 (.inl rfl) rfl) shapeCasts_S1_S1x1x1) inpos_S1x1x1_p0_0_0
/-- Every row's sum, as a column. -/
def sumOfRows (x : FVec F Sq .f32) : FVec F S1024x1 .f32 :=
  shapeCast S1024x1 (multiReduction .add [1] S1024 x 0x00000000#32 reduces_S1024x1024_S1024 (.inl rfl) rfl) shapeCasts_S1024_S1024x1
/-- Every lane's sum over the rows, as a row. -/
def sumOfCols (x : FVec F Sq .f32) : FVec F S1x1024 .f32 :=
  shapeCast S1x1024 (multiReduction .add [0] S1024 x 0x00000000#32 reduces_S1024x1024_S1024_2 (.inl rfl) rfl) shapeCasts_S1024_S1x1024

/-- The row of an entry, as a number. -/
def rowNo : FVec F Sq .f32 := sitofp .f32 (iota .tc Sq 32 [0] iota_S1024x1024_d0_w32)
/-- The place of an entry in the row-major order, as a number. -/
def place : FVec F Sq .f32 :=
  addf (mulf rowNo (broadcast Sq (Scalar.ofBits .f32 0x44800000#32))) (sitofp .f32 (iota .tc Sq 32 [1] iota_S1024x1024_d1_w32))
/-- The row of a column's entry, as a number. -/
def colNo : FVec F S1024x1 .f32 := sitofp .f32 (iota .tc S1024x1 32 [0] iota_S1024x1_d0_w32)

/-- The entry at the origin. -/
def head (x : FVec F Sq .f32) : F .f32 := extractAt ![0, 0] (extractStridedSlice S1x1 ![0, 0] x slices_S1024x1024_o0_0_S1x1) inpos_S1x1_p0_0
/-- The exponentials of a square's entries less `m`. -/
def expLess (m : F .f32) (x : FVec F Sq .f32) : FVec F Sq .f32 := exp (divf (subf x (broadcast Sq m)) (broadcast Sq one))
/-- The reciprocal of the sum of the exponentials. -/
def scale (x : FVec F Sq .f32) : F .f32 := Scalar.divf one (total (expLess (head x) x))
/-- The probabilities of the sorted scores. -/
def probs (x : FVec F Sq .f32) : FVec F Sq .f32 := mulf (expLess (head x) x) (broadcast Sq (scale x))

/-- The cumulated probability at every row's end. -/
def cumEnd (q : FVec F Sq .f32) : FVec F S1024x1 .f32 := colSums 10 (by omega) (sumOfRows q)
/-- The cumulated probability before every row. -/
def cumBefore (q : FVec F Sq .f32) : FVec F S1024x1 .f32 := subf (cumEnd q) (sumOfRows q)
/-- The rows at whose end the cumulated sum is at most `t`. -/
def rowFull (t : F .f32) (q : FVec F Sq .f32) : IVec S1024x1 1 := cmpf .ole (cumEnd q) (broadcast S1024x1 t)
/-- How many they are: the row in which the cumulated sum passes `t`. -/
def lastRow (t : F .f32) (q : FVec F Sq .f32) : F .f32 := colTotal (select (rowFull t q) (broadcast S1024x1 one) (broadcast S1024x1 zero))
/-- The entries of that row. -/
def inLast (t : F .f32) (q : FVec F Sq .f32) : IVec Sq 1 := cmpf .oeq rowNo (broadcast Sq (lastRow t q))
/-- The cumulated sum before that row. -/
def before (t : F .f32) (q : FVec F Sq .f32) : F .f32 :=
  colTotal (select (cmpf .oeq colNo (broadcast S1024x1 (lastRow t q))) (cumBefore q) (broadcast S1024x1 zero))
/-- That row. -/
def theRow (t : F .f32) (q : FVec F Sq .f32) : FVec F S1x1024 .f32 := sumOfCols (select (inLast t q) q (broadcast Sq zero))
/-- The sums cumulated within that row. -/
def within (t : F .f32) (q : FVec F Sq .f32) : FVec F S1x1024 .f32 := rowSums 10 (by omega) (theRow t q)
/-- The nucleus's bound on the cumulated probability. -/
def bound : F .f32 := Scalar.ofBits .f32 0x3F666666#32
/-- The lanes of the last row within the nucleus. -/
def laneIn (q : FVec F Sq .f32) : IVec S1x1024 1 :=
  cmpf .ole (addf (broadcast S1x1024 (before bound q)) (within bound q)) (broadcast S1x1024 bound)
/-- The nucleus: the full rows, the lanes of the last row within it, and the first entry in any case. -/
def nucleus (q : FVec F Sq .f32) : IVec Sq 1 :=
  ori (ori (broadcastTo Sq (rowFull bound q) broadcasts_S1024x1_S1024x1024)
      (andi (inLast bound q) (broadcastTo Sq (laneIn q) broadcasts_S1x1024_S1024x1024)))
    (cmpf .oeq (place (F := F)) (broadcast Sq zero))
/-- The nucleus's probability. -/
def mass (q : FVec F Sq .f32) : F .f32 :=
  Scalar.maximumf (Scalar.addf (before bound q) (rowGreatest (select (laneIn q) (within bound q) (broadcast S1x1024 zero))))
    (total (select (cmpf .oeq (place (F := F)) (broadcast Sq zero)) q (broadcast Sq zero)))
/-- The probabilities renormalised to the nucleus. -/
def kept (q : FVec F Sq .f32) : FVec F Sq .f32 :=
  select (nucleus q) (mulf q (broadcast Sq (Scalar.divf one (mass q)))) (broadcast Sq zero)

/-- What the body stores in its first output block, from the block of scores. -/
def keptOf (x0 : FVec F S1x1024x1024 .f32) : FVec F S1x1024x1024 .f32 :=
  shapeCast S1x1024x1024 (kept (probs (sorted (shapeCast S1024x1024 x0 shapeCasts_S1x1024x1024_S1024x1024)))) shapeCasts_S1024x1024_S1x1024x1024

/-- The place of the first of a square's greatest entries. -/
def firstGreatest (x : FVec F Sq .f32) : F .f32 :=
  least (select (cmpf .oeq x (broadcast Sq (greatest x))) place (broadcast Sq (Scalar.ofBits .f32 0x49800000#32)))
/-- The place drawn among the sorted entries: the perturbed score is greatest within the nucleus. -/
def drawn (g x : FVec F Sq .f32) : F .f32 :=
  firstGreatest (select (nucleus (probs x)) (addf g x) (broadcast Sq (Scalar.ofBits .f32 0xFF800000#32)))
/-- The probability at place `j`. -/
def probAt (j : F .f32) (q : FVec F Sq .f32) : F .f32 :=
  greatest (select (cmpf .oeq (place (F := F)) (broadcast Sq j)) q (broadcast Sq (Scalar.ofBits .f32 0xBF800000#32)))
/-- The probabilities of the entries `s` in their given order, `x` being the sorted square. -/
def givenProbs (x s : FVec F Sq .f32) : FVec F Sq .f32 := mulf (expLess (head x) s) (broadcast Sq (scale x))
/-- Ones where the comparison `p` holds of an entry and `v`, else zeros. -/
def indicator (p : CmpFPredicate) (x : FVec F Sq .f32) (v : F .f32) : FVec F Sq .f32 :=
  select (cmpf p x (broadcast Sq v)) (broadcast Sq one) (broadcast Sq zero)
/-- The lane of a row's entry, as a number. -/
def laneNo : FVec F S1x1024 .f32 := sitofp .f32 (iota .tc S1x1024 32 [1] iota_S1x1024_d1_w32)
/-- The place of the nonzero entry of `e`, ones and zeros, that has `k` ones before it. -/
def nthOne (k : F .f32) (e : FVec F Sq .f32) : F .f32 :=
  extractAt ![0, 0, 0] (shapeCast S1x1x1 (multiReduction .minimumf [1, 2] S1 (shapeCast S1x1x1024
    (select (andi (cmpf .ogt (theRow k e) (broadcast S1x1024 zero))
        (cmpf .oeq (addf (subf (within k e) (theRow k e)) (broadcast S1x1024 (before k e))) (broadcast S1x1024 k)))
      (addf (broadcast S1x1024 (Scalar.mulf (lastRow k e) (Scalar.ofBits .f32 0x44800000#32))) laneNo)
      (broadcast S1x1024 (Scalar.ofBits .f32 0x49800000#32))) shapeCasts_S1x1024_S1x1x1024)
    0x7F800000#32 reduces_S1x1x1024_S1 (.inl rfl) rfl) shapeCasts_S1_S1x1x1) inpos_S1x1x1_p0_0_0
/-- The place in the given order of the entry at place `j` of the sorted order. -/
def unsorted (j : F .f32) (x s : FVec F Sq .f32) : F .f32 :=
  nthOne (Scalar.subf j (total (indicator .ogt (givenProbs x s) (probAt j (probs x)))))
    (indicator .oeq (givenProbs x s) (probAt j (probs x)))

/-- What the body stores in its second output block, from the blocks of scores and of perturbations. -/
def drawnOf (x0 x1 : FVec F S1x1024x1024 .f32) : FVec F S1x1x1 .f32 :=
  shapeCast S1x1x1 (broadcast S1x1 (unsorted
    (drawn (shapeCast S1024x1024 x1 shapeCasts_S1x1024x1024_S1024x1024) (sorted (shapeCast S1024x1024 x0 shapeCasts_S1x1024x1024_S1024x1024)))
    (sorted (shapeCast S1024x1024 x0 shapeCasts_S1x1024x1024_S1024x1024))
    (shapeCast S1024x1024 x0 shapeCasts_S1x1024x1024_S1024x1024))) shapeCasts_S1x1_S1x1x1

end Cert.Body
end
-- ==== Proof.BodyEq.lean ====
/- The pieces the generated run of the kernel's body stores, as the readable definitions. -/
module

public import proofs.«01_k».proof.Proof.Tail

@[expose] public section

set_option maxRecDepth 16384

noncomputable section

namespace Cert.KernelIdeal.Gen

open Idealize.ShloMosaic Idealize.ShloMosaic.TcCoe Idealize.ShloMosaic.Tactic

variable {F : FTy → Type} [FloatOps F]

/-- The first output's block is stored whole: the kept probabilities of the block of scores. -/
theorem piece_kept (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S8x128 .f32) (harg5 : arg5.IsWhole)
    (x0 : Vec F S1x1024x1024 .f32) (x1 : Vec F S1x1024x1024 .f32) :
    (kernelRun0_A c i arg1 harg1 arg2 harg2 arg3 harg3 arg4 harg4 arg5 harg5 x0 x1).1
      = [⟨Rect.unit ![0, 0, 0] ![1, 1024, 1024] Facts₀.inb_S1x1024x1024_S1x1024x1024_0_0_0,
          Cert.Body.keptOf (View.readAt (Elt F) arg1.view
            (Rect.unit ![0, 0, 0] S1x1024x1024.size Facts₀.inb_S1x1024x1024_S1x1024x1024_0_0_0).toLoadRect (harg1.unread x0))⟩] := by
  sl_kernel_rfl

/-- The second output's block is stored whole: the place of the token drawn. -/
theorem piece_drawn (c : Dev nD) (i : grid0.Coords) (arg1 : Memref sig .tc .vmem S1x1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S8x128 .f32) (harg5 : arg5.IsWhole)
    (x0 : Vec F S1x1024x1024 .f32) (x1 : Vec F S1x1024x1024 .f32) :
    (kernelRun0_A c i arg1 harg1 arg2 harg2 arg3 harg3 arg4 harg4 arg5 harg5 x0 x1).2.1
      = [⟨Rect.unit ![0, 0, 0] ![1, 1, 1] Facts₀.inb_S1x1x1_S1x1x1_0_0_0,
          Cert.Body.drawnOf (View.readAt (Elt F) arg1.view
            (Rect.unit ![0, 0, 0] S1x1024x1024.size Facts₀.inb_S1x1024x1024_S1x1024x1024_0_0_0).toLoadRect (harg1.unread x0))
            (View.readAt (Elt F) arg2.view
            (Rect.unit ![0, 0, 0] S1x1024x1024.size Facts₀.inb_S1x1024x1024_S1x1024x1024_0_0_0).toLoadRect (harg2.unread x1))⟩] := by
  sl_kernel_rfl

end Cert.KernelIdeal.Gen
end
-- ==== Proof.LaunchValue.lean ====
/- What the launch leaves in its two result arrays, as the readable definitions of the body applied to each row. -/
module

public import proofs.«01_k».proof.Proof.BodyEq
public import proofs.«01_k».proof.Proof.Gen.KernelIdeal.Frame
public import Idealize.ShloMosaic.Lib.Pipeline.Value
public import Idealize.ShloMosaic.Lib.ValueIdx
public import Idealize.ShloMosaic.Lib.Claim

@[expose] public section

set_option maxRecDepth 16384

noncomputable section

namespace Cert.KernelIdeal.Launch

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-- Row `b` of an array of sixteen squares, as one block. -/
def blockAt (A : Vec F S16x1024x1024 .f32) (b : Fin 16) : Vec F S1x1024x1024 .f32 :=
  fun j => A (ix3 b ⟨(j 1).val, (j 1).isLt⟩ ⟨(j 2).val, (j 2).isLt⟩)

/-- The sixteen blocks of kept probabilities. -/
def keptAll (A : Vec F S16x1024x1024 .f32) : Vec F S16x1024x1024 .f32 :=
  fun i => Cert.Body.keptOf (blockAt A ⟨(i 0).val, (i 0).isLt⟩)
    (ix3 (0 : Fin 1) ⟨(i 1).val, (i 1).isLt⟩ ⟨(i 2).val, (i 2).isLt⟩)

/-- The sixteen places drawn. -/
def drawnAll (A B : Vec F S16x1024x1024 .f32) : Vec F S16x1x1 .f32 :=
  fun i => Cert.Body.drawnOf (blockAt A ⟨(i 0).val, (i 0).isLt⟩) (blockAt B ⟨(i 0).val, (i 0).isLt⟩)
    (ix3 (0 : Fin 1) (0 : Fin 1) (0 : Fin 1))

/-- The block every window is at: point `t` is at row `t`, columns from zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ t.val < 16 :=
  (by decide +kernel : ∀ t : Fin grid0.N, _)

/-- The row of point `t`. -/
def rowAt (t : Fin cfg0.N) : Fin 16 := ⟨t.val, (idx_facts t).2.2.2.2⟩

/-- The block of scores point `t` is given. -/
theorem scores_block (c : Dev nD) (t : Fin cfg0.N) :
    (iblk m c 0 t : Vec F S1x1024x1024 .f32) = blockAt (V m c main_v10) (rowAt t) := by
  obtain ⟨⟨h0, h1, h2⟩, -⟩ := idx_facts t
  funext j
  show V m c main_v10 _ = V m c main_v10 _
  refine congrArg _ (funext fun a => Fin.ext ?_)
  have hj : (j 0).val < 1 := (j 0).isLt
  match a with
  | ⟨0, _⟩ => show win0_0.index t (0 : Fin 3) * 1 + 1 * (j 0).val = t.val; omega
  | ⟨1, _⟩ => show win0_0.index t (1 : Fin 3) * 1024 + 1 * (j 1).val = (j 1).val; omega
  | ⟨2, _⟩ => show win0_0.index t (2 : Fin 3) * 1024 + 1 * (j 2).val = (j 2).val; omega

/-- The block of noise point `t` is given. -/
theorem noise_block (c : Dev nD) (t : Fin cfg0.N) :
    (iblk m c 1 t : Vec F S1x1024x1024 .f32) = blockAt (V m c main_v13) (rowAt t) := by
  obtain ⟨-, ⟨h0, h1, h2⟩, -⟩ := idx_facts t
  funext j
  show V m c main_v13 _ = V m c main_v13 _
  refine congrArg _ (funext fun a => Fin.ext ?_)
  have hj : (j 0).val < 1 := (j 0).isLt
  match a with
  | ⟨0, _⟩ => show win0_1.index t (0 : Fin 3) * 1 + 1 * (j 0).val = t.val; omega
  | ⟨1, _⟩ => show win0_1.index t (1 : Fin 3) * 1024 + 1 * (j 1).val = (j 1).val; omega
  | ⟨2, _⟩ => show win0_1.index t (2 : Fin 3) * 1024 + 1 * (j 2).val = (j 2).val; omega

/-- What a whole staging buffer holding `x` reads. -/
theorem read_whole (a : Memref sig .tc .vmem S1x1024x1024 .f32) (h : a.IsWhole) (x : Vec F S1x1024x1024 .f32) :
    View.readAt (Elt F) a.view
      (Rect.unit ![0, 0, 0] S1x1024x1024.size Facts₀.inb_S1x1024x1024_S1x1024x1024_0_0_0).toLoadRect (h.unread x) = x := by
  rw [View.readAt_eq_ld, h.read_unread]
  exact View.ld_unit_zero (S := S1x1024x1024) zero3 _ _

/-- The first output's staging buffer after point `t`. -/
theorem out_kept (c : Dev nD) (t : Fin cfg0.N) :
    (outsAt0 m c t).1 = Cert.Body.keptOf (blockAt (V m c main_v10) (rowAt t)) := by
  unfold outsAt0 out0_A_2
  dsimp only
  rw [View.read_writes_eq_canon _ _ _ (cover0_A_2 c _ _ _ _ _ _ _ _ _ _ _ _ _), piece_kept]
  refine (View.canon_unit_zero (S := S1x1024x1024) zero3 _ _).trans ?_
  rw [read_whole, scores_block]

/-- The second output's staging buffer after point `t`. -/
theorem out_drawn (c : Dev nD) (t : Fin cfg0.N) :
    (outsAt0 m c t).2 = Cert.Body.drawnOf (blockAt (V m c main_v10) (rowAt t)) (blockAt (V m c main_v13) (rowAt t)) := by
  unfold outsAt0 out0_A_3
  dsimp only
  rw [View.read_writes_eq_canon _ _ _ (cover0_A_3 c _ _ _ _ _ _ _ _ _ _ _ _ _), piece_drawn]
  refine (View.canon_unit_zero (S := S1x1x1) zero3 _ _).trans ?_
  rw [read_whole, read_whole, scores_block, noise_block]

/-- What point `t` writes back of the first output is its block of the kept probabilities. -/
theorem flushed_kept (c : Dev nD) (t : Fin cfg0.N) :
    (dats m 0 c).flushed 2 t = (win0_2.blk t).view.read (Elt F) (keptAll (V m c main_v10)) := by
  obtain ⟨-, -, ⟨h0, h1, h2⟩, -⟩ := idx_facts t
  show (cfg0.win 2).cut (grid0.coords t) ((dats m 0 c).after 2 t) = _
  rw [after0_2, out_kept]
  funext j
  have hj : (j 0).val < 1 := (j 0).isLt
  have e : (win0_2.blk t).view.read (Elt F) (keptAll (V m c main_v10)) j
      = keptAll (V m c main_v10) (ix3 (rowAt t) ⟨(j 1).val, (j 1).isLt⟩ ⟨(j 2).val, (j 2).isLt⟩) := by
    show keptAll _ _ = keptAll _ _
    refine congrArg _ (funext fun a => Fin.ext ?_)
    match a with
    | ⟨0, _⟩ => show win0_2.index t (0 : Fin 3) * 1 + 1 * (j 0).val = t.val; omega
    | ⟨1, _⟩ => show win0_2.index t (1 : Fin 3) * 1024 + 1 * (j 1).val = (j 1).val; omega
    | ⟨2, _⟩ => show win0_2.index t (2 : Fin 3) * 1024 + 1 * (j 2).val = (j 2).val; omega
  rw [e]
  show Cert.Body.keptOf _ _ = Cert.Body.keptOf _ _
  refine congrArg _ (funext fun a => Fin.ext ?_)
  match a with
  | ⟨0, _⟩ => show (j 0).val = 0; omega
  | ⟨1, _⟩ => rfl
  | ⟨2, _⟩ => rfl

/-- What point `t`'s block of the second result reads, whatever the array holds. -/
theorem read_drawn (t : Fin cfg0.N) (G : Vec F S16x1x1 .f32) (j : S1x1x1.Idx) :
    ((win0_3.blk t).view.read (Elt F) G : Vec F S1x1x1 .f32) j = G (ix3 (rowAt t) (0 : Fin 1) (0 : Fin 1)) := by
  obtain ⟨-, -, -, ⟨h0, h1, h2⟩, -⟩ := idx_facts t
  have hj : (j 0).val < 1 := (j 0).isLt
  have hj1 : (j 1).val < 1 := (j 1).isLt
  have hj2 : (j 2).val < 1 := (j 2).isLt
  show G _ = G _
  refine congrArg _ (funext fun a => Fin.ext ?_)
  match a with
  | ⟨0, _⟩ => show win0_3.index t (0 : Fin 3) * 1 + 1 * (j 0).val = t.val; omega
  | ⟨1, _⟩ => show win0_3.index t (1 : Fin 3) * 1 + 1 * (j 1).val = 0; omega
  | ⟨2, _⟩ => show win0_3.index t (2 : Fin 3) * 1 + 1 * (j 2).val = 0; omega

/-- The one place of a block of one. -/
theorem only_place (j : S1x1x1.Idx) : j = ix3 (0 : Fin 1) (0 : Fin 1) (0 : Fin 1) := by
  have hj : (j 0).val < 1 := (j 0).isLt
  have hj1 : (j 1).val < 1 := (j 1).isLt
  have hj2 : (j 2).val < 1 := (j 2).isLt
  refine funext fun a => Fin.ext ?_
  match a with
  | ⟨0, _⟩ => show (j 0).val = 0; omega
  | ⟨1, _⟩ => show (j 1).val = 0; omega
  | ⟨2, _⟩ => show (j 2).val = 0; omega

/-- What point `t` writes back of the second output is its block of the places drawn. -/
theorem flushed_drawn (c : Dev nD) (t : Fin cfg0.N) :
    (dats m 0 c).flushed 3 t = (win0_3.blk t).view.read (Elt F) (drawnAll (V m c main_v10) (V m c main_v13)) := by
  show (cfg0.win 3).cut (grid0.coords t) ((dats m 0 c).after 3 t) = _
  rw [after0_3, out_drawn]
  have e2 : drawnAll (V m c main_v10) (V m c main_v13) (ix3 (rowAt t) (0 : Fin 1) (0 : Fin 1))
      = Cert.Body.drawnOf (blockAt (V m c main_v10) (rowAt t)) (blockAt (V m c main_v13) (rowAt t))
        (ix3 (0 : Fin 1) (0 : Fin 1) (0 : Fin 1)) := by
    unfold drawnAll; rfl
  generalize drawnAll (V m c main_v10) (V m c main_v13) = G at e2 ⊢
  generalize Cert.Body.drawnOf (blockAt (V m c main_v10) (rowAt t)) (blockAt (V m c main_v13) (rowAt t)) = D at e2 ⊢
  funext j
  refine Eq.trans ?_ (read_drawn t G j).symm
  rw [e2]
  show D _ = D _
  exact congrArg D (only_place _)

/-- Every row is some point's. -/
theorem onto : ∀ b : Fin 16, ∃ t : Fin cfg0.N, t.val = b.val :=
  (by decide +kernel : ∀ b : Fin 16, ∃ t : Fin grid0.N, t.val = b.val)

/-- Every place of the first result is in some point's block. -/
theorem cover_kept (i : S16x1024x1024.Idx) :
    ∃ t : Fin cfg0.N, (cfg0.win 2).flush t = true ∧ i ∈ ((cfg0.win 2).blk t).view.set := by
  obtain ⟨t, ht⟩ := onto ⟨(i 0).val, (i 0).isLt⟩
  obtain ⟨-, -, ⟨h0, h1, h2⟩, -⟩ := idx_facts t
  refine ⟨t, flush0_2 t, ?_⟩
  show i ∈ ((View.whole main_v14_0).slice (win0_2.rect t)).set
  rw [View.set_slice_whole, Rect.mem_set_unit]
  intro a
  have i1 : (i 1).val < 1024 := (i 1).isLt
  have i2 : (i 2).val < 1024 := (i 2).isLt
  have ht' : t.val = (i 0).val := ht
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- Every place of the second result is in some point's block. -/
theorem cover_drawn (i : S16x1x1.Idx) :
    ∃ t : Fin cfg0.N, (cfg0.win 3).flush t = true ∧ i ∈ ((cfg0.win 3).blk t).view.set := by
  obtain ⟨t, ht⟩ := onto ⟨(i 0).val, (i 0).isLt⟩
  obtain ⟨-, -, -, ⟨h0, h1, h2⟩, -⟩ := idx_facts t
  refine ⟨t, flush0_3 t, ?_⟩
  show i ∈ ((View.whole main_v14_1).slice (win0_3.rect t)).set
  rw [View.set_slice_whole, Rect.mem_set_unit]
  intro a
  have i1 : (i 1).val < 1 := (i 1).isLt
  have i2 : (i 2).val < 1 := (i 2).isLt
  have ht' : t.val = (i 0).val := ht
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- The first result array after the launch. -/
theorem final_kept (c : Dev nD) : (dats m 0 c).arrAt 2 cfg0.N = keptAll (V m c main_v10) :=
  (dats m 0 c).arrAt_eq_of_cover 2 (keptAll (V m c main_v10)) (fun t _ => flushed_kept m c t) cover_kept

/-- The second result array after the launch. -/
theorem final_drawn (c : Dev nD) : (dats m 0 c).arrAt 3 cfg0.N = drawnAll (V m c main_v10) (V m c main_v13) :=
  (dats m 0 c).arrAt_eq_of_cover 3 (drawnAll (V m c main_v10) (V m c main_v13)) (fun t _ => flushed_drawn m c t) cover_drawn

end Cert.KernelIdeal.Launch
end
-- ==== Proof.LaunchRun.lean ====
/- What the whole program leaves in its two results, as functions of its argument and of the noise. -/
module

public import proofs.«01_k».proof.Proof.LaunchValue

@[expose] public section

set_option maxRecDepth 16384

noncomputable section

namespace Cert.KernelIdeal.Launch

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ) (ρ : Dev nD → PrngReg)

/-- The scores padded to the power of two, as sixteen squares. -/
def padded (x : Vec F S16x1000000 .f32) : Vec F S16x1024x1024 .f32 :=
  shapeCast S16x1024x1024 (concatenate S16x1048576 1
    [⟨S16x1000000, x⟩, ⟨S16x48576, broadcastInDim S16x48576 ![] Facts₀.bcast_S_S16x48576 (constant S_ .f32 0xFF800000#32)⟩]
    Facts₀.concatenates_S16x1000000_S16x48576_S16x1048576_d1) Facts₀.shapeCasts_S16x1048576_S16x1024x1024

/-- The noise padded likewise. -/
def paddedNoise (g : Vec F S16x1000000 .f32) : Vec F S16x1024x1024 .f32 :=
  shapeCast S16x1024x1024 (concatenate S16x1048576 1
    [⟨S16x1000000, g⟩, ⟨S16x48576, broadcastInDim S16x48576 ![] Facts₀.bcast_S_S16x48576 (constant S_ .f32 0x00000000#32)⟩]
    Facts₀.concatenates_S16x1000000_S16x48576_S16x1048576_d1) Facts₀.shapeCasts_S16x1048576_S16x1024x1024

/-- The first million of each row, of sixteen squares read row after row. -/
def trimmed (x : Vec F S16x1024x1024 .f32) : Vec F S16x1000000 .f32 :=
  extractStridedSlice S16x1000000 ![0, 0] (shapeCast S16x1048576 x Facts₀.shapeCasts_S16x1024x1024_S16x1048576)
    Facts₀.slices_S16x1048576_S16x1000000_0_0

/-- The places drawn, as words. -/
def words (x : Vec F S16x1x1 .f32) : IVec S16 32 :=
  fptosi 32 (shapeCast S16 x Facts₀.shapeCasts_S16x1x1_S16)

/-- The lines before the launch leave the argument's padded rows in the scores' array. -/
theorem pads_scores (W : Valuation τ sig (Elt F)) :
    StableHlo.after hostOps0_2 W (Proc.devRef .tc main_v10) = padded (W (Proc.devRef .tc main_arg0)) := by
  after_results
  rfl

/-- They leave the noise's padded rows in the noise's array. -/
theorem pads_noise (W : Valuation τ sig (Elt F)) :
    StableHlo.after hostOps0_2 W (Proc.devRef .tc main_v13) = paddedNoise (W (Proc.devRef .tc main_v7)) := by
  after_results
  rfl

/-- They leave the argument alone. -/
theorem pads_arg (W : Valuation τ sig (Elt F)) :
    StableHlo.after hostOps0_2 W (Proc.devRef .tc main_arg0) = W (Proc.devRef .tc main_arg0) := by
  after_results

/-- The valuation before the padding. -/
def drawn₀ (c : Dev nD) : Valuation τ sig (Elt F) :=
  StableHlo.after hostOps0_1 (StableHlo.after hostOps0 fun b => m (c, b))

/-- The launch's entry, as the padding of what was there before. -/
theorem entry_eq (c : Dev nD) : V0 m c = StableHlo.after hostOps0_2 (drawn₀ m c) := by
  show StableHlo.after (hostOps0 ++ (hostOps0_1 ++ (hostOps0_2 ++ []))) _ = _
  rw [List.append_nil, StableHlo.after_append, StableHlo.after_append]
  rfl

/-- The scores' array as the launch finds it. -/
theorem entry_scores (c : Dev nD) :
    V m c main_v10 = padded (m ((c : Thread nD τ).loc main_arg0)) := by
  have e : V m c main_arg0 = m ((c : Thread nD τ).loc main_arg0) := V_main_arg0 m c
  show V0 m c (Proc.devRef .tc main_v10) = _
  have e' : V0 m c (Proc.devRef .tc main_arg0) = m ((c : Thread nD τ).loc main_arg0) := e
  rw [entry_eq, pads_arg] at e'
  rw [entry_eq, pads_scores, e']

/-- The noise's array as the launch finds it. -/
theorem entry_noise (c : Dev nD) :
    V m c main_v13 = paddedNoise (drawn₀ m c (Proc.devRef .tc main_v7)) := by
  show V0 m c (Proc.devRef .tc main_v13) = _
  rw [entry_eq, pads_noise]

/-- What the lines after the launch leave in the first result. -/
theorem tail_kept (W : Valuation τ sig (Elt F)) :
    StableHlo.after hostOps1 W (Proc.devRef .tc main_v16) = trimmed (W (Proc.devRef .tc main_v14_0)) := by
  after_results
  rfl

/-- What the lines after the launch leave in the second. -/
theorem tail_drawn (W : Valuation τ sig (Elt F)) :
    StableHlo.after hostOps1 W (Proc.devRef .tc main_v18) = words (W (Proc.devRef .tc main_v14_1)) := by
  after_results
  rfl

/-- The run, read: both results as functions of what the launch finds, the argument unchanged. -/
theorem run : θ_run defs (onTc (τ := τ) (main (F := F))) ⟨m, fun _ => 0, ρ⟩ fun r => ∀ c : Dev nD,
      r.2.mem ((c.tc : Thread nD τ).loc main_v18)
        = words (drawnAll (padded (m ((c : Thread nD τ).loc main_arg0)))
            (paddedNoise (drawn₀ m c (Proc.devRef .tc main_v7))))
      ∧ r.2.mem ((c.tc : Thread nD τ).loc main_v16) = trimmed (keptAll (padded (m ((c : Thread nD τ).loc main_arg0))))
      ∧ r.2.mem ((c.tc : Thread nD τ).loc main_arg0) = m ((c.tc : Thread nD τ).loc main_arg0) := by
  refine (θ_run defs _ _).mono (fun r h c => ?_) (θ_run_and (run_main m ρ) (unchanged m ρ))
  refine ⟨?_, ?_, h.2 c⟩
  · refine ((h.1 c).2 main_v18 (Pipeline.mem_restRefs_of main_v18 (by decide) (by decide))).trans ?_
    refine (tail_drawn _).trans (congrArg words ?_)
    refine (Pipeline.withArrays_arr (τ := τ) spec0 launch0.win.arr_inj c (V0 m c) (fun w => (dats m 0 c).arrAt w cfg0.N) 3).trans ?_
    rw [← entry_scores, ← entry_noise]
    exact final_drawn m c
  · refine ((h.1 c).2 main_v16 (Pipeline.mem_restRefs_of main_v16 (by decide) (by decide))).trans ?_
    refine (tail_kept _).trans (congrArg trimmed ?_)
    refine (Pipeline.withArrays_arr (τ := τ) spec0 launch0.win.arr_inj c (V0 m c) (fun w => (dats m 0 c).arrAt w cfg0.N) 2).trans ?_
    rw [← entry_scores]
    exact final_kept m c

end Cert.KernelIdeal.Launch
end
-- ==== Proof.TailRead.lean ====
/- The operations of the body's tail read at an entry, on squares, columns and rows of real numbers. -/
module

public import proofs.«01_k».proof.Proof.Tail
public import Idealize.ShloMosaic.Lib.ValueIdx
public import Idealize.ShloMosaic.Lib.IdealHost
public import Idealize.ShloMosaic.Lib.Pipeline.Value

@[expose] public section

set_option maxRecDepth 16384

noncomputable section

namespace Cert.Body

open Idealize.ShloMosaic Idealize.ShloMosaic.ValueIdx Cert.KernelIdeal Cert.KernelIdeal.Facts₀

/-! ## Sums of real numbers -/

/-- The sum of the first `n` values. -/
def S (f : ℕ → ℝ) (n : ℕ) : ℝ := ∑ i ∈ Finset.range n, f i

theorem S_zero (f : ℕ → ℝ) : S f 0 = 0 := Finset.sum_range_zero f
theorem S_succ (f : ℕ → ℝ) (n : ℕ) : S f (n + 1) = S f n + f n := Finset.sum_range_succ f n

theorem S_mono (f : ℕ → ℝ) (hf : ∀ i, 0 ≤ f i) {m n : ℕ} (h : m ≤ n) : S f m ≤ S f n :=
  Finset.sum_le_sum_of_subset_of_nonneg (Finset.range_mono h) fun i _ _ => hf i

/-- The sum of `n` values from `a` on. -/
theorem S_block (f : ℕ → ℝ) (a n : ℕ) : S (fun c => f (a + c)) n = S f (a + n) - S f a := by
  unfold S
  rw [Finset.sum_range_add]; ring

/-- Sums of block sums. -/
theorem S_blocks (f : ℕ → ℝ) (w n : ℕ) : S (fun r => S f ((r + 1) * w) - S f (r * w)) n = S f (n * w) := by
  induction n with
  | zero => rw [S_zero, Nat.zero_mul, S_zero]
  | succ n ih => rw [S_succ, ih]; ring

theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- A sum over the first `n` numbers, as extended reals. -/
theorem sum_fin (n : ℕ) (f : ℕ → ℝ) : ∑ i : Fin n, ((f i.val : ℝ) : EReal) = ((S f n : ℝ) : EReal) := by
  unfold S
  rw [Finset.sum_range, coe_sum]

/-! ## Squares, columns and rows of real numbers -/

/-- The square holds `f` row after row. -/
def IsSq (Q : FVec Ideal Sq .f32) (f : ℕ → ℝ) : Prop := ∀ r c : Fin 1024, Q (ix2 r c) = ((f (r.val * 1024 + c.val) : ℝ) : EReal)
/-- The column holds `f`. -/
def IsCol (Q : FVec Ideal S1024x1 .f32) (f : ℕ → ℝ) : Prop := ∀ r : Fin 1024, Q (ix2 r (0 : Fin 1)) = ((f r.val : ℝ) : EReal)
/-- The row holds `f`. -/
def IsRow (Q : FVec Ideal S1x1024 .f32) (f : ℕ → ℝ) : Prop := ∀ c : Fin 1024, Q (ix2 (0 : Fin 1) c) = ((f c.val : ℝ) : EReal)

theorem zero_eq : zero (F := Ideal) = ((0 : ℝ) : EReal) := Ideal.ofBits_zero_f32
theorem one_eq : one (F := Ideal) = ((1 : ℝ) : EReal) := Ideal.ofBits_one_f32

/-- A whole reduction by addition of a recast array. -/
theorem sum_all {s t u : Shape} {axes : List (Fin t.rank)} (x : FVec Ideal s .f32) (hc : s.ShapeCasts t) (acc : BitVec 32) (h : t.Reduces axes u)
    (hφ : FKind.Formats .f32) (ha : acc = FKind.add.neutral .f32 hφ) (hu : ∀ b, u.size b = 1) (j : u.Idx) :
    multiReduction .add axes u (shapeCast t x hc) acc h hφ ha j = ∑ i : s.Idx, x i := by
  rw [Ideal.multiReduction_add_total _ acc h hu hφ ha j]
  exact Equiv.sum_comp (Shape.reshapeEquiv hc) x

/-- A whole reduction by maximum of a recast array. -/
theorem max_all {s t u : Shape} {axes : List (Fin t.rank)} (x : FVec Ideal s .f32) (hc : s.ShapeCasts t) (acc : BitVec 32) (h : t.Reduces axes u)
    (hφ : FKind.Formats .f32) (ha : acc = FKind.maximumf.neutral .f32 hφ) (hu : ∀ b, u.size b = 1) (j : u.Idx) (v : EReal)
    (hacc : Ideal.ofBits .f32 acc = ⊥) (hle : ∀ i, x i ≤ v) (hex : ∃ i, x i = v) :
    multiReduction .maximumf axes u (shapeCast t x hc) acc h hφ ha j = v := by
  have hone : ∀ i, h.drop i = j := fun i => funext fun b => Fin.ext (by
    have := (h.drop i b).isLt; have := (j b).isLt; have := hu b; omega)
  rw [multiReduction_maximumf_eq_fold, Finset.filter_true_of_mem fun i _ => hone i]
  show Finset.fold max (Ideal.ofBits .f32 acc) (fun i => x (Shape.reshapeEquiv hc i)) Finset.univ = v
  rw [hacc]
  apply le_antisymm
  · exact Finset.fold_max_le _ |>.2 ⟨bot_le, fun i _ => hle _⟩
  · obtain ⟨i, hi⟩ := hex
    exact Finset.le_fold_max _ |>.2 (.inr ⟨(Shape.reshapeEquiv hc).symm i, Finset.mem_univ _, by rw [Equiv.apply_symm_apply, hi]⟩)

/-- A whole reduction by minimum of a recast array. -/
theorem min_all {s t u : Shape} {axes : List (Fin t.rank)} (x : FVec Ideal s .f32) (hc : s.ShapeCasts t) (acc : BitVec 32) (h : t.Reduces axes u)
    (hφ : FKind.Formats .f32) (ha : acc = FKind.minimumf.neutral .f32 hφ) (hu : ∀ b, u.size b = 1) (j : u.Idx) (v : EReal)
    (hacc : Ideal.ofBits .f32 acc = ⊤) (hle : ∀ i, v ≤ x i) (hex : ∃ i, x i = v) :
    multiReduction .minimumf axes u (shapeCast t x hc) acc h hφ ha j = v := by
  have hone : ∀ i, h.drop i = j := fun i => funext fun b => Fin.ext (by
    have := (h.drop i b).isLt; have := (j b).isLt; have := hu b; omega)
  rw [multiReduction_minimumf_eq_fold, Finset.filter_true_of_mem fun i _ => hone i]
  show Finset.fold min (Ideal.ofBits .f32 acc) (fun i => x (Shape.reshapeEquiv hc i)) Finset.univ = v
  rw [hacc]
  apply le_antisymm
  · obtain ⟨i, hi⟩ := hex
    exact Finset.fold_min_le _ |>.2 (.inr ⟨(Shape.reshapeEquiv hc).symm i, Finset.mem_univ _, by rw [Equiv.apply_symm_apply, hi]⟩)
  · exact Finset.le_fold_min _ |>.2 ⟨le_top, fun i _ => hle _⟩

theorem unit_S1 : ∀ b, S1.size b = 1 := by decide

theorem negInf_eq : Ideal.ofBits .f32 0xFF800000#32 = ⊥ := by simp [Ideal.ofBits, Ideal.ieee]
theorem posInf_eq : Ideal.ofBits .f32 0x7F800000#32 = ⊤ := by simp [Ideal.ofBits, Ideal.ieee]

/-- The one number of a one-entry array. -/
theorem extract_cast (Y : FVec Ideal S1 .f32) :
    extractAt ![0, 0, 0] (shapeCast S1x1x1 Y shapeCasts_S1_S1x1x1) inpos_S1x1x1_p0_0_0 = Y (ix1 (0 : Fin 1)) := by
  unfold extractAt
  exact shapeCast_apply Y _ _ _ (by rw [Shape.rowMajor_val_one, Shape.rowMajor_val_three]; rfl)

theorem greatest_eq (x : FVec Ideal Sq .f32) (v : EReal) (hle : ∀ i, x i ≤ v) (hex : ∃ i, x i = v) : greatest x = v := by
  unfold greatest
  rw [extract_cast]
  exact max_all x shapeCasts_S1024x1024_S1x1024x1024 0xFF800000#32 reduces_S1x1024x1024_S1 (.inl rfl) rfl unit_S1 (ix1 (0 : Fin 1)) v negInf_eq hle hex
theorem least_eq (x : FVec Ideal Sq .f32) (v : EReal) (hle : ∀ i, v ≤ x i) (hex : ∃ i, x i = v) : least x = v := by
  unfold least
  rw [extract_cast]
  exact min_all x shapeCasts_S1024x1024_S1x1024x1024 0x7F800000#32 reduces_S1x1024x1024_S1 (.inl rfl) rfl unit_S1 (ix1 (0 : Fin 1)) v posInf_eq hle hex
theorem rowGreatest_eq (x : FVec Ideal S1x1024 .f32) (v : EReal) (hle : ∀ i, x i ≤ v) (hex : ∃ i, x i = v) : rowGreatest x = v :=
  max_all x shapeCasts_S1x1024_S1x1x1024 0xFF800000#32 reduces_S1x1x1024_S1 (.inl rfl) rfl unit_S1 _ v negInf_eq hle hex

/-- The sum of a square's entries. -/
theorem total_eq {Q : FVec Ideal Sq .f32} {f : ℕ → ℝ} (hQ : IsSq Q f) : total Q = ((S f (1024 * 1024) : ℝ) : EReal) := by
  have e : total Q = ∑ i : Sq.Idx, Q i := sum_all Q shapeCasts_S1024x1024_S1x1024x1024 0x00000000#32 reduces_S1x1024x1024_S1 (.inl rfl) rfl unit_S1 _
  rw [e, sum_idx2]
  have hr : ∀ r : Fin 1024, ∑ c : Fin 1024, Q (ix2 r c) = ((S f ((r.val + 1) * 1024) - S f (r.val * 1024) : ℝ) : EReal) := by
    intro r
    rw [show (r.val + 1) * 1024 = r.val * 1024 + 1024 by ring, ← S_block, ← sum_fin]
    exact Finset.sum_congr rfl fun c _ => hQ r c
  rw [Finset.sum_congr rfl fun r _ => hr r, sum_fin 1024 (fun r => S f ((r + 1) * 1024) - S f (r * 1024)), S_blocks]

/-- The sum of a column's entries. -/
theorem colTotal_eq {Q : FVec Ideal S1024x1 .f32} {f : ℕ → ℝ} (hQ : IsCol Q f) : colTotal Q = ((S f 1024 : ℝ) : EReal) := by
  have e : colTotal Q = ∑ i : S1024x1.Idx, Q i := sum_all Q shapeCasts_S1024x1_S1x1024x1 0x00000000#32 reduces_S1x1024x1_S1 (.inl rfl) rfl unit_S1 _
  rw [e, sum_idx2, ← sum_fin]
  refine Finset.sum_congr rfl fun r _ => ?_
  rw [Fin.sum_univ_one]
  exact hQ r

/-- Every row's sum. -/
theorem sumOfRows_eq {Q : FVec Ideal Sq .f32} {f : ℕ → ℝ} (hQ : IsSq Q f) :
    IsCol (sumOfRows Q) fun r => S f ((r + 1) * 1024) - S f (r * 1024) := by
  intro r
  unfold sumOfRows
  rw [shapeCast_apply _ _ _ (ix1 r) (by rw [Shape.rowMajor_val_one, Shape.rowMajor_val_two]; show r.val = r.val * 1 + 0; omega)]
  refine (Ideal.multiReduction_add_single (a := 1) Q 0x00000000#32 reduces_S1024x1024_S1024 (.inl rfl) rfl (ix1 r)).trans ?_
  show _ = ((S f ((r.val + 1) * 1024) - S f (r.val * 1024) : ℝ) : EReal)
  rw [show (r.val + 1) * 1024 = r.val * 1024 + 1024 by ring, ← S_block, ← sum_fin]
  refine Finset.sum_congr rfl fun c _ => ?_
  rw [show reduces_S1024x1024_S1024.lift (ix1 r) c = ix2 r c from funext fun a => match a with | ⟨0, _⟩ => rfl | ⟨1, _⟩ => rfl]
  exact hQ r c

/-- Every lane's sum over the rows, of a square with one nonzero row `l`. -/
theorem sumOfCols_eq {Q : FVec Ideal Sq .f32} {f : ℕ → ℝ} (l : Fin 1024)
    (hQ : ∀ r c : Fin 1024, Q (ix2 r c) = if r = l then ((f (r.val * 1024 + c.val) : ℝ) : EReal) else ((0 : ℝ) : EReal)) :
    IsRow (sumOfCols Q) fun c => f (l.val * 1024 + c) := by
  intro c
  unfold sumOfCols
  rw [shapeCast_apply _ _ _ (ix1 c) (by rw [Shape.rowMajor_val_one, Shape.rowMajor_val_two]; show c.val = 0 * 1024 + c.val; omega)]
  refine (Ideal.multiReduction_add_single (a := 0) Q 0x00000000#32 reduces_S1024x1024_S1024_2 (.inl rfl) rfl (ix1 c)).trans ?_
  have e : ∀ r : Fin 1024, reduces_S1024x1024_S1024_2.lift (ix1 c) r = ix2 r c :=
    fun r => funext fun a => match a with | ⟨0, _⟩ => rfl | ⟨1, _⟩ => rfl
  refine (Finset.sum_congr rfl fun r _ => congrArg Q (e r)).trans ?_
  refine (Finset.sum_eq_single l ?_ ?_).trans ?_
  · intro r _ hr
    exact (hQ r c).trans (if_neg hr)
  · intro h; exact absurd (Finset.mem_univ _) h
  · exact (hQ l c).trans (if_pos rfl)

/-- A word's number. -/
theorem word_real (n : ℕ) (h : n < 2 ^ 31) : ((((BitVec.ofNat 32 n).toInt : ℝ)) : EReal) = ((n : ℝ) : EReal) := by
  have : (BitVec.ofNat 32 n).toInt = (n : ℤ) := by
    rw [BitVec.toInt_eq_toNat_cond, BitVec.toNat_ofNat, Nat.mod_eq_of_lt (by omega), if_pos (by omega)]
  rw [this, Int.cast_natCast]

theorem rowNo_eq (r c : Fin 1024) : rowNo (F := Ideal) (ix2 r c) = ((r.val : ℝ) : EReal) := by
  show (((BitVec.ofNat 32 (0 * 1024 + r.val)).toInt : ℝ) : EReal) = _
  rw [Nat.zero_mul, Nat.zero_add, word_real _ (by omega)]

theorem colNo_eq : IsCol (colNo (F := Ideal)) fun r => (r : ℝ) := by
  intro r
  show (((BitVec.ofNat 32 (0 * 1024 + r.val)).toInt : ℝ) : EReal) = _
  rw [Nat.zero_mul, Nat.zero_add, word_real _ (by omega)]

theorem laneNo_eq : IsRow (laneNo (F := Ideal)) fun c => (c : ℝ) := by
  intro c
  show (((BitVec.ofNat 32 (0 * 1024 + c.val)).toInt : ℝ) : EReal) = _
  rw [Nat.zero_mul, Nat.zero_add, word_real _ (by omega)]

theorem k1024_eq : Ideal.ofBits .f32 0x44800000#32 = ((1024 : ℝ) : EReal) := by
  simp [Ideal.ofBits, Ideal.ieee, -EReal.coe_mul]; norm_num

theorem big_eq : Ideal.ofBits .f32 0x49800000#32 = ((1048576 : ℝ) : EReal) := by
  simp [Ideal.ofBits, Ideal.ieee, -EReal.coe_mul]; norm_num

theorem minusOne_eq : Ideal.ofBits .f32 0xBF800000#32 = ((-1 : ℝ) : EReal) := by
  simp [Ideal.ofBits, Ideal.ieee, -EReal.coe_mul]; norm_num

/-- The nucleus's bound as a real number. -/
def boundR : ℝ := 15099494 / 16777216
theorem bound_eq : bound (F := Ideal) = ((boundR : ℝ) : EReal) := by
  show Ideal.ofBits .f32 0x3F666666#32 = _
  unfold boundR
  simp [Ideal.ofBits, Ideal.ieee, -EReal.coe_mul]; norm_num

theorem place_eq : IsSq (place (F := Ideal)) fun j => (j : ℝ) := by
  intro r c
  show rowNo (F := Ideal) (ix2 r c) * Ideal.ofBits .f32 0x44800000#32 + (((BitVec.ofNat 32 (0 * 1024 + c.val)).toInt : ℝ) : EReal) = _
  rw [rowNo_eq, k1024_eq, Nat.zero_mul, Nat.zero_add, word_real _ (by omega), ← EReal.coe_mul, ← EReal.coe_add]
  push_cast
  rfl

/-! ## Cumulated sums by doubling -/

/-- The sum of the `w` values that end with number `n − 1`. -/
def win (f : ℕ → ℝ) (n w : ℕ) : ℝ := S f n - S f (n - w)

theorem colStep_eq (k : Fin 10) {X : FVec Ideal S1024x1 .f32} {f : ℕ → ℝ} (hX : IsCol X fun r => win f (r + 1) (2 ^ k.val)) :
    IsCol (colStep k X) fun r => win f (r + 1) (2 ^ (k.val + 1)) := by
  have e2 : 2 ^ (k.val + 1) = 2 ^ k.val + 2 ^ k.val := by rw [Nat.pow_succ]; omega
  intro r
  unfold colStep
  rw [addf_apply, hX r]
  by_cases hr : r.val < 2 ^ k.val
  · rw [concatenate_pair_apply_left (t := S1024x1) (s₁ := ⟨2, ![2 ^ k.val, 1]⟩) (s₂ := ⟨2, ![1024 - 2 ^ k.val, 1]⟩) 0 _ _ (col_join k) (ix2 r 0) rfl
      (ix2 (⟨r.val, hr⟩ : Fin (2 ^ k.val)) (0 : Fin 1)) ?_]
    · rw [broadcast_apply, zero_eq, ← EReal.coe_add]
      unfold win
      dsimp only
      rw [e2, show r.val + 1 - 2 ^ k.val = 0 by omega, show r.val + 1 - (2 ^ k.val + 2 ^ k.val) = 0 by omega, add_zero]
    · intro b
      match b with
      | ⟨0, _⟩ => rfl
      | ⟨1, _⟩ => rfl
  · have hlt1 : r.val - 2 ^ k.val < 1024 := Nat.lt_of_le_of_lt (Nat.sub_le _ _) r.isLt
    have hlt : r.val - 2 ^ k.val < 1024 - 2 ^ k.val := by have := r.isLt; omega
    rw [concatenate_pair_apply_right (t := S1024x1) (s₁ := ⟨2, ![2 ^ k.val, 1]⟩) (s₂ := ⟨2, ![1024 - 2 ^ k.val, 1]⟩) 0 _ _ (col_join k) (ix2 r 0) rfl rfl
      (ix2 (⟨r.val - 2 ^ k.val, hlt⟩ : Fin (1024 - 2 ^ k.val)) (0 : Fin 1)) ?_ ?_]
    · have hx := hX ⟨r.val - 2 ^ k.val, hlt1⟩
      have e : extractStridedSlice ⟨2, ![1024 - 2 ^ k.val, 1]⟩ ![0, 0] X (col_slices k)
          (ix2 (⟨r.val - 2 ^ k.val, hlt⟩ : Fin (1024 - 2 ^ k.val)) (0 : Fin 1)) = X (ix2 ⟨r.val - 2 ^ k.val, hlt1⟩ 0) := by
        unfold extractStridedSlice
        congr 1
        funext a
        match a with
        | ⟨0, _⟩ => exact Fin.ext (Nat.zero_add _)
        | ⟨1, _⟩ => exact Fin.ext (Nat.zero_add _)
      rw [e, hx, ← EReal.coe_add]
      unfold win
      dsimp only
      rw [e2, show r.val - 2 ^ k.val + 1 = r.val + 1 - 2 ^ k.val by omega,
        show r.val + 1 - 2 ^ k.val - 2 ^ k.val = r.val + 1 - (2 ^ k.val + 2 ^ k.val) by omega]
      congr 1
      ring
    · intro b hb
      match b with
      | ⟨0, _⟩ => exact absurd rfl hb
      | ⟨1, _⟩ => rfl
    · show r.val - 2 ^ k.val + 2 ^ k.val = r.val
      omega

theorem rowStep_eq (k : Fin 10) {X : FVec Ideal S1x1024 .f32} {f : ℕ → ℝ} (hX : IsRow X fun r => win f (r + 1) (2 ^ k.val)) :
    IsRow (rowStep k X) fun r => win f (r + 1) (2 ^ (k.val + 1)) := by
  have e2 : 2 ^ (k.val + 1) = 2 ^ k.val + 2 ^ k.val := by rw [Nat.pow_succ]; omega
  intro r
  unfold rowStep
  rw [addf_apply, hX r]
  by_cases hr : r.val < 2 ^ k.val
  · rw [concatenate_pair_apply_left (t := S1x1024) (s₁ := ⟨2, ![1, 2 ^ k.val]⟩) (s₂ := ⟨2, ![1, 1024 - 2 ^ k.val]⟩) 1 _ _ (row_join k) (ix2 0 r) rfl
      (ix2 (0 : Fin 1) (⟨r.val, hr⟩ : Fin (2 ^ k.val))) ?_]
    · rw [broadcast_apply, zero_eq, ← EReal.coe_add]
      unfold win
      dsimp only
      rw [e2, show r.val + 1 - 2 ^ k.val = 0 by omega, show r.val + 1 - (2 ^ k.val + 2 ^ k.val) = 0 by omega, add_zero]
    · intro b
      match b with
      | ⟨0, _⟩ => rfl
      | ⟨1, _⟩ => rfl
  · have hlt1 : r.val - 2 ^ k.val < 1024 := Nat.lt_of_le_of_lt (Nat.sub_le _ _) r.isLt
    have hlt : r.val - 2 ^ k.val < 1024 - 2 ^ k.val := by have := r.isLt; omega
    rw [concatenate_pair_apply_right (t := S1x1024) (s₁ := ⟨2, ![1, 2 ^ k.val]⟩) (s₂ := ⟨2, ![1, 1024 - 2 ^ k.val]⟩) 1 _ _ (row_join k) (ix2 0 r) rfl rfl
      (ix2 (0 : Fin 1) (⟨r.val - 2 ^ k.val, hlt⟩ : Fin (1024 - 2 ^ k.val))) ?_ ?_]
    · have hx := hX ⟨r.val - 2 ^ k.val, hlt1⟩
      have e : extractStridedSlice ⟨2, ![1, 1024 - 2 ^ k.val]⟩ ![0, 0] X (row_slices k)
          (ix2 (0 : Fin 1) (⟨r.val - 2 ^ k.val, hlt⟩ : Fin (1024 - 2 ^ k.val))) = X (ix2 0 ⟨r.val - 2 ^ k.val, hlt1⟩) := by
        unfold extractStridedSlice
        congr 1
        funext a
        match a with
        | ⟨0, _⟩ => exact Fin.ext (Nat.zero_add _)
        | ⟨1, _⟩ => exact Fin.ext (Nat.zero_add _)
      rw [e, hx, ← EReal.coe_add]
      unfold win
      dsimp only
      rw [e2, show r.val - 2 ^ k.val + 1 = r.val + 1 - 2 ^ k.val by omega,
        show r.val + 1 - 2 ^ k.val - 2 ^ k.val = r.val + 1 - (2 ^ k.val + 2 ^ k.val) by omega]
      congr 1
      ring
    · intro b hb
      match b with
      | ⟨0, _⟩ => rfl
      | ⟨1, _⟩ => exact absurd rfl hb
    · show r.val - 2 ^ k.val + 2 ^ k.val = r.val
      omega

theorem win_one (f : ℕ → ℝ) (r : ℕ) : win f (r + 1) (2 ^ 0) = f r := by
  unfold win
  rw [show r + 1 - 2 ^ 0 = r by omega, S_succ]; ring

theorem colSums_win {X : FVec Ideal S1024x1 .f32} {f : ℕ → ℝ} (hX : IsCol X f) :
    ∀ (n : ℕ) (h : n ≤ 10), IsCol (colSums n h X) fun r => win f (r + 1) (2 ^ n)
  | 0, h => fun r => (hX r).trans (congrArg Real.toEReal (win_one f r.val).symm)
  | n + 1, h => colStep_eq ⟨n, h⟩ (colSums_win hX n (by omega))

theorem rowSums_win {X : FVec Ideal S1x1024 .f32} {f : ℕ → ℝ} (hX : IsRow X f) :
    ∀ (n : ℕ) (h : n ≤ 10), IsRow (rowSums n h X) fun r => win f (r + 1) (2 ^ n)
  | 0, h => fun r => (hX r).trans (congrArg Real.toEReal (win_one f r.val).symm)
  | n + 1, h => rowStep_eq ⟨n, h⟩ (rowSums_win hX n (by omega))

/-- Ten shifted additions cumulate a column. -/
theorem colSums_eq {X : FVec Ideal S1024x1 .f32} {f : ℕ → ℝ} (hX : IsCol X f) (h : 10 ≤ 10) : IsCol (colSums 10 h X) fun r => S f (r + 1) := by
  intro r
  rw [colSums_win hX 10 h r]
  show ((win f (r.val + 1) (2 ^ 10) : ℝ) : EReal) = ((S f (r.val + 1) : ℝ) : EReal)
  unfold win
  rw [show r.val + 1 - 2 ^ 10 = 0 by have := r.isLt; omega, S_zero, sub_zero]

/-- Ten shifted additions cumulate a row. -/
theorem rowSums_eq {X : FVec Ideal S1x1024 .f32} {f : ℕ → ℝ} (hX : IsRow X f) (h : 10 ≤ 10) : IsRow (rowSums 10 h X) fun r => S f (r + 1) := by
  intro r
  rw [rowSums_win hX 10 h r]
  show ((win f (r.val + 1) (2 ^ 10) : ℝ) : EReal) = ((S f (r.val + 1) : ℝ) : EReal)
  unfold win
  rw [show r.val + 1 - 2 ^ 10 = 0 by have := r.isLt; omega, S_zero, sub_zero]

end Cert.Body
end
-- ==== Proof.TailValue.lean ====
/- The two-level search for the place at which the cumulated sums of a square pass a threshold, and the nucleus. -/
module

public import proofs.«01_k».proof.Proof.TailRead

@[expose] public section

set_option maxRecDepth 16384

noncomputable section

namespace Cert.Body

open Idealize.ShloMosaic Idealize.ShloMosaic.ValueIdx Cert.KernelIdeal Cert.KernelIdeal.Facts₀

/-- The bit of a decided statement. -/
abbrev bit (p : Prop) [Decidable p] : BitVec 1 := BitVec.ofBool (decide p)

theorem bit_congr {p q : Prop} [Decidable p] [Decidable q] (h : p ↔ q) : bit p = bit q := by
  unfold bit; rw [decide_eq_decide.2 h]

theorem ole_real (a b : ℝ) : FloatOps.cmpf (F := Ideal) (φ := .f32) .ole (a : EReal) (b : EReal) = bit (a ≤ b) :=
  bit_congr EReal.coe_le_coe_iff
theorem oeq_real (a b : ℝ) : FloatOps.cmpf (F := Ideal) (φ := .f32) .oeq (a : EReal) (b : EReal) = bit (a = b) :=
  bit_congr EReal.coe_eq_coe_iff
theorem ogt_real (a b : ℝ) : FloatOps.cmpf (F := Ideal) (φ := .f32) .ogt (a : EReal) (b : EReal) = bit (b < a) :=
  bit_congr EReal.coe_lt_coe_iff

theorem select_bit {α : Type} (p : Prop) [Decidable p] (a b : α) : Scalar.select (bit p) a b = if p then a else b := by
  by_cases h : p
  · rw [if_pos h, bit, decide_eq_true h]; rfl
  · rw [if_neg h, bit, decide_eq_false h]; rfl

theorem or_bit (p q : Prop) [Decidable p] [Decidable q] : IntOp.ori (bit p) (bit q) = bit (p ∨ q) := by
  by_cases hp : p <;> by_cases hq : q <;> simp [bit, hp, hq, IntOp.ori]
theorem and_bit (p q : Prop) [Decidable p] [Decidable q] : IntOp.andi (bit p) (bit q) = bit (p ∧ q) := by
  by_cases hp : p <;> by_cases hq : q <;> simp [bit, hp, hq, IntOp.andi]

theorem S_ones (L : ℕ) : ∀ n, S (fun r => if r < L then (1 : ℝ) else 0) n = ((min L n : ℕ) : ℝ)
  | 0 => by rw [S_zero, Nat.min_zero, Nat.cast_zero]
  | n + 1 => by
    rw [S_succ, S_ones L n]
    by_cases h : n < L
    · rw [if_pos h, Nat.min_eq_right (by omega), Nat.min_eq_right (by omega)]; push_cast; ring
    · rw [if_neg h, Nat.min_eq_left (by omega), Nat.min_eq_left (by omega), add_zero]

theorem S_single (g : ℕ → ℝ) (L n : ℕ) (h : L < n) : S (fun r => if r = L then g r else 0) n = g L := by
  unfold S
  rw [Finset.sum_ite_eq' (Finset.range n) L g, if_pos (Finset.mem_range.2 h)]

theorem natCast_eq_iff (a b : ℕ) : ((a : ℝ) = (b : ℝ)) ↔ a = b := Nat.cast_inj

/-- `J` is the first place at which the sum of the values up to it passes `t`. -/
structure Passes (f : ℕ → ℝ) (t : ℝ) (J : ℕ) : Prop where
  /-- The sum up to a place is at most `t` exactly before `J`. -/
  iff : ∀ j, j < 1048576 → (S f (j + 1) ≤ t ↔ j < J)
  /-- `J` is a place of the square. -/
  lt : J < 1048576

/-- Sums of values that are not negative pass a threshold below their total. -/
theorem passes_exists (f : ℕ → ℝ) (hf : ∀ i, 0 ≤ f i) (t : ℝ) (ht : t < S f 1048576) : ∃ J, Passes f t J := by
  classical
  have hex : ∃ j, t < S f (j + 1) := ⟨1048575, ht⟩
  refine ⟨Nat.find hex, ⟨fun j _ => ⟨fun h => ?_, fun h => ?_⟩, ?_⟩⟩
  · by_contra hc
    have := Nat.find_spec hex
    have := S_mono f hf (show Nat.find hex + 1 ≤ j + 1 by omega)
    linarith
  · exact not_lt.1 (Nat.find_min hex h)
  · have := Nat.find_min' hex (show t < S f (1048575 + 1) from ht)
    omega

section search

variable {Q : FVec Ideal Sq .f32} {f : ℕ → ℝ} (hQ : IsSq Q f) {t : ℝ} {J : ℕ} (hJ : Passes f t J)

include hQ in
theorem cumEnd_eq : IsCol (cumEnd Q) fun r => S f ((r + 1) * 1024) := by
  intro r
  refine (colSums_eq (sumOfRows_eq hQ) _ r).trans ?_
  exact congrArg Real.toEReal (S_blocks f 1024 _)

include hQ in
theorem cumBefore_eq : IsCol (cumBefore Q) fun r => S f (r * 1024) := by
  intro r
  unfold cumBefore
  show cumEnd Q (ix2 r 0) - sumOfRows Q (ix2 r 0) = _
  rw [cumEnd_eq hQ r, sumOfRows_eq hQ r, ← EReal.coe_sub]
  congr 1
  ring

include hQ hJ in
theorem rowFull_eq (r : Fin 1024) : rowFull (t : EReal) Q (ix2 r (0 : Fin 1)) = bit (r.val < J / 1024) := by
  unfold rowFull
  rw [cmpf_apply, broadcast_apply, cumEnd_eq hQ r, ole_real]
  refine bit_congr ?_
  show S f ((r.val + 1) * 1024) ≤ t ↔ _
  have := hJ.iff (r.val * 1024 + 1023) (by have := r.isLt; omega)
  rw [show (r.val + 1) * 1024 = r.val * 1024 + 1023 + 1 by ring, this]
  omega

include hQ hJ in
theorem lastRow_eq : lastRow (t : EReal) Q = (((J / 1024 : ℕ) : ℝ) : EReal) := by
  unfold lastRow
  have h : IsCol (select (rowFull (t : EReal) Q) (broadcast S1024x1 one) (broadcast S1024x1 zero))
      fun r => if r < J / 1024 then (1 : ℝ) else 0 := by
    intro r
    rw [select_apply, rowFull_eq hQ hJ r, select_bit, broadcast_apply, broadcast_apply, one_eq, zero_eq]
    dsimp only
    split_ifs <;> rfl
  rw [colTotal_eq h, S_ones, Nat.min_eq_left (by have := hJ.lt; omega)]

include hQ hJ in
theorem inLast_eq (r c : Fin 1024) : inLast (t : EReal) Q (ix2 r c) = bit (r.val = J / 1024) := by
  unfold inLast
  rw [cmpf_apply, broadcast_apply, rowNo_eq, lastRow_eq hQ hJ, oeq_real]
  exact bit_congr (natCast_eq_iff _ _)

include hQ hJ in
theorem before_eq : before (t : EReal) Q = ((S f (J / 1024 * 1024) : ℝ) : EReal) := by
  unfold before
  have h : IsCol (select (cmpf .oeq colNo (broadcast S1024x1 (lastRow (t : EReal) Q))) (cumBefore Q) (broadcast S1024x1 zero))
      fun r => if r = J / 1024 then S f (r * 1024) else 0 := by
    intro r
    rw [select_apply, cmpf_apply, broadcast_apply, broadcast_apply, colNo_eq r, lastRow_eq hQ hJ, oeq_real, select_bit, cumBefore_eq hQ r, zero_eq]
    dsimp only
    simp only [natCast_eq_iff]
    split_ifs <;> rfl
  rw [colTotal_eq h, S_single (fun r => S f (r * 1024)) _ _ (by have := hJ.lt; omega)]

include hQ hJ in
theorem theRow_eq : IsRow (theRow (t : EReal) Q) fun c => f (J / 1024 * 1024 + c) := by
  unfold theRow
  have hL : J / 1024 < 1024 := by have := hJ.lt; omega
  refine sumOfCols_eq ⟨J / 1024, hL⟩ fun r c => ?_
  rw [select_apply, inLast_eq hQ hJ, select_bit, hQ r c, broadcast_apply, zero_eq]
  simp only [Fin.ext_iff]

include hQ hJ in
theorem within_eq : IsRow (within (t : EReal) Q) fun c => S f (J / 1024 * 1024 + c + 1) - S f (J / 1024 * 1024) := by
  intro c
  refine (rowSums_eq (theRow_eq hQ hJ) _ c).trans ?_
  exact congrArg Real.toEReal (S_block f _ _)

end search

section nucleus

variable {Q : FVec Ideal Sq .f32} {f : ℕ → ℝ} (hQ : IsSq Q f) {J : ℕ} (hJ : Passes f boundR J)

include hQ hJ in
theorem laneIn_eq (c : Fin 1024) : laneIn Q (ix2 (0 : Fin 1) c) = bit (J / 1024 * 1024 + c.val < J) := by
  unfold laneIn
  have hJl := hJ.lt
  rw [cmpf_apply, addf_apply, broadcast_apply, broadcast_apply, bound_eq, before_eq hQ hJ, within_eq hQ hJ c, ← EReal.coe_add, ole_real]
  refine bit_congr ?_
  rw [show S f (J / 1024 * 1024) + (S f (J / 1024 * 1024 + c.val + 1) - S f (J / 1024 * 1024)) = S f (J / 1024 * 1024 + c.val + 1) by ring]
  exact hJ.iff _ (by have := c.isLt; omega)

theorem atZero_eq (r c : Fin 1024) : cmpf .oeq (place (F := Ideal)) (broadcast Sq zero) (ix2 r c) = bit (r.val * 1024 + c.val = 0) := by
  rw [cmpf_apply, broadcast_apply, place_eq r c, zero_eq, oeq_real]
  exact bit_congr Nat.cast_eq_zero

include hQ hJ in
/-- The nucleus is the places before `J` and the first. -/
theorem nucleus_eq (r c : Fin 1024) : nucleus Q (ix2 r c) = bit (r.val * 1024 + c.val < J ∨ r.val * 1024 + c.val = 0) := by
  unfold nucleus
  show IntOp.ori (IntOp.ori (broadcastTo Sq (rowFull bound Q) broadcasts_S1024x1_S1024x1024 (ix2 r c))
    (IntOp.andi (inLast bound Q (ix2 r c)) (broadcastTo Sq (laneIn Q) broadcasts_S1x1024_S1024x1024 (ix2 r c))))
    (cmpf .oeq (place (F := Ideal)) (broadcast Sq zero) (ix2 r c)) = _
  rw [broadcastTo_apply (rowFull bound Q) broadcasts_S1024x1_S1024x1024 (ix2 r c) (ix2 r (0 : Fin 1)) ?h1,
    broadcastTo_apply (laneIn Q) broadcasts_S1x1024_S1024x1024 (ix2 r c) (ix2 (0 : Fin 1) c) ?h2,
    bound_eq, rowFull_eq hQ hJ, inLast_eq hQ hJ, laneIn_eq hQ hJ, atZero_eq, and_bit, or_bit, or_bit]
  case h1 =>
    intro a
    match a with
    | ⟨0, _⟩ => rfl
    | ⟨1, _⟩ => rfl
  case h2 =>
    intro a
    match a with
    | ⟨0, _⟩ => rfl
    | ⟨1, _⟩ => rfl
  refine bit_congr ?_
  have := c.isLt
  constructor
  · rintro ((h | ⟨h, h'⟩) | h)
    · left; omega
    · left; rw [h]; omega
    · right; exact h
  · rintro (h | h)
    · left
      by_cases hr : r.val < J / 1024
      · left; exact hr
      · have : r.val = J / 1024 := by omega
        right; rw [← this]; exact ⟨rfl, h⟩
    · right; exact h

include hQ hJ in
/-- The nucleus's probability. -/
theorem mass_eq (hf : ∀ i, 0 ≤ f i) : mass Q = ((max (S f J) (f 0) : ℝ) : EReal) := by
  have hJl := hJ.lt
  have hL : J / 1024 < 1024 := by omega
  have h1 : rowGreatest (select (laneIn Q) (within bound Q) (broadcast S1x1024 zero)) = ((S f J - S f (J / 1024 * 1024) : ℝ) : EReal) := by
    have hv : ∀ c : Fin 1024, select (laneIn Q) (within bound Q) (broadcast S1x1024 zero) (ix2 (0 : Fin 1) c)
        = ((if J / 1024 * 1024 + c.val < J then S f (J / 1024 * 1024 + c.val + 1) - S f (J / 1024 * 1024) else 0 : ℝ) : EReal) := by
      intro c
      rw [select_apply, laneIn_eq hQ hJ, select_bit, bound_eq, within_eq hQ hJ c, broadcast_apply, zero_eq]
      split_ifs <;> rfl
    refine rowGreatest_eq _ _ ?_ ?_
    · intro i
      obtain ⟨c, rfl⟩ : ∃ c : Fin 1024, i = ix2 (0 : Fin 1) c := ⟨i 1, (eq_ix2 i).trans (by
        funext a
        match a with
        | ⟨0, _⟩ => exact Subsingleton.elim (α := Fin 1) _ _
        | ⟨1, _⟩ => rfl)⟩
      rw [hv, EReal.coe_le_coe_iff]
      split_ifs with h
      · have := S_mono f hf (show J / 1024 * 1024 + c.val + 1 ≤ J by omega)
        linarith
      · have := S_mono f hf (show J / 1024 * 1024 ≤ J by omega)
        linarith
    · by_cases h0 : J / 1024 * 1024 = J
      · refine ⟨ix2 (0 : Fin 1) (0 : Fin 1024), ?_⟩
        rw [hv, if_neg (by show ¬ (J / 1024 * 1024 + 0 < J); omega), h0, sub_self]
      · have hc : J % 1024 - 1 < 1024 := by omega
        refine ⟨ix2 (0 : Fin 1) (⟨J % 1024 - 1, hc⟩ : Fin 1024), ?_⟩
        rw [hv, if_pos (by show J / 1024 * 1024 + (J % 1024 - 1) < J; omega)]
        congr 3
        show J / 1024 * 1024 + (J % 1024 - 1) + 1 = J
        omega
  have h2 : total (select (cmpf .oeq (place (F := Ideal)) (broadcast Sq zero)) Q (broadcast Sq zero)) = ((f 0 : ℝ) : EReal) := by
    have h : IsSq (select (cmpf .oeq (place (F := Ideal)) (broadcast Sq zero)) Q (broadcast Sq zero)) fun j => if j = 0 then f j else 0 := by
      intro r c
      rw [select_apply, atZero_eq, select_bit, hQ r c, broadcast_apply, zero_eq]
      dsimp only
      split_ifs <;> rfl
    rw [total_eq h, S_single f 0 _ (by decide)]
  unfold mass
  show max (before bound Q + _) _ = _
  rw [h1, h2, bound_eq, before_eq hQ hJ, ← EReal.coe_add,
    show S f (J / 1024 * 1024) + (S f J - S f (J / 1024 * 1024)) = S f J by ring]
  exact (EReal.coe_strictMono.monotone.map_max).symm

include hQ hJ in
/-- The kept probabilities: those of the nucleus over their sum, zero elsewhere. -/
theorem kept_eq (hf : ∀ i, 0 ≤ f i) (h0 : 0 < f 0) :
    IsSq (kept Q) fun j => if j < J ∨ j = 0 then f j * (1 / max (S f J) (f 0)) else 0 := by
  intro r c
  unfold kept
  rw [select_apply, nucleus_eq hQ hJ, select_bit, mulf_apply, hQ r c, broadcast_apply, broadcast_apply, mass_eq hQ hJ hf, one_eq, zero_eq]
  have hM : max (S f J) (f 0) ≠ 0 := (lt_of_lt_of_le h0 (le_max_right _ _)).ne'
  have hd : Scalar.divf (F := Ideal) (φ := .f32) ((1 : ℝ) : EReal) ((max (S f J) (f 0) : ℝ) : EReal) = ((1 / max (S f J) (f 0) : ℝ) : EReal) := by
    show Ideal.div _ _ = _
    rw [Ideal.div_coe hM, ← EReal.coe_mul, one_mul]
  rw [hd, ← EReal.coe_mul]
  dsimp only
  split_ifs <;> rfl

end nucleus

end Cert.Body
end
-- ==== Proof.Spec.lean ====
/- The nucleus of a descending sequence of scores, in the real numbers: what both programs compute of a row. -/
module

public import proofs.«01_k».proof.Proof.TailValue

@[expose] public section

noncomputable section

namespace Cert.Spec

open Cert.Body

/-- The exponentials of the first `n` scores less the first one, zeros after them. -/
def expo (n : ℕ) (y : ℕ → ℝ) (j : ℕ) : ℝ := if j < n then Real.exp (y j - y 0) else 0
/-- Their sum. -/
def mass (n : ℕ) (y : ℕ → ℝ) : ℝ := S (expo n y) n
/-- The probabilities. -/
def prob (n : ℕ) (y : ℕ → ℝ) (j : ℕ) : ℝ := expo n y j * (1 / mass n y)
/-- The probabilities of the nucleus, renormalised: `J` is the place at which the sum passes the bound. -/
def out (n : ℕ) (y : ℕ → ℝ) (J j : ℕ) : ℝ :=
  if j < J ∨ j = 0 then prob n y j * (1 / max (S (prob n y) J) (prob n y 0)) else 0

variable (n : ℕ) (y : ℕ → ℝ)

theorem expo_nonneg (j : ℕ) : 0 ≤ expo n y j := by
  unfold expo
  split
  · exact (Real.exp_pos _).le
  · exact le_refl _

theorem expo_zero (hn : 0 < n) : expo n y 0 = 1 := by
  unfold expo
  rw [if_pos hn, sub_self, Real.exp_zero]

theorem mass_pos (hn : 0 < n) : 0 < mass n y := by
  have h1 : S (expo n y) 1 ≤ S (expo n y) n := S_mono _ (expo_nonneg n y) hn
  rw [S_succ, S_zero, expo_zero n y hn] at h1
  unfold mass
  linarith

/-- Past the scores a sum of values that vanish there no longer grows. -/
theorem S_past (f : ℕ → ℝ) (n N : ℕ) (h : n ≤ N) (hz : ∀ j, n ≤ j → f j = 0) : S f N = S f n := by
  induction N, h using Nat.le_induction with
  | base => rfl
  | succ m hm ih => rw [S_succ, hz m hm, ih, add_zero]

theorem S_scale (f : ℕ → ℝ) (c : ℝ) (n : ℕ) : S (fun j => f j * c) n = S f n * c := (Finset.sum_mul _ _ _).symm

theorem expo_past (j : ℕ) (h : n ≤ j) : expo n y j = 0 := if_neg (Nat.not_lt.2 h)
theorem prob_past (j : ℕ) (h : n ≤ j) : prob n y j = 0 := by unfold prob; rw [expo_past n y j h, zero_mul]

theorem prob_nonneg (hn : 0 < n) (j : ℕ) : 0 ≤ prob n y j :=
  mul_nonneg (expo_nonneg n y j) (one_div_pos.2 (mass_pos n y hn)).le

theorem prob_pos (hn : 0 < n) (j : ℕ) (hj : j < n) : 0 < prob n y j := by
  refine mul_pos ?_ (one_div_pos.2 (mass_pos n y hn))
  unfold expo
  rw [if_pos hj]
  exact Real.exp_pos _

theorem prob_sum (hn : 0 < n) : S (prob n y) n = 1 := by
  show S (fun j => expo n y j * (1 / mass n y)) n = 1
  rw [S_scale]
  exact mul_one_div_cancel (mass_pos n y hn).ne'

/-- The place at which the sum passes the bound. -/
theorem passes (hn : 0 < n) (hN : n ≤ 1048576) : ∃ J, Passes (prob n y) boundR J :=
  passes_exists _ (prob_nonneg n y hn) _ (by
    rw [S_past _ n _ hN (prob_past n y), prob_sum n y hn]; unfold boundR; norm_num)

/-- It lies among the scores. -/
theorem passes_lt (hn : 0 < n) (hN : n ≤ 1048576) {J : ℕ} (hJ : Passes (prob n y) boundR J) : J < n := by
  by_contra hc
  have h := (hJ.iff (n - 1) (by omega)).2 (by omega)
  rw [Nat.sub_add_cancel hn, prob_sum n y hn] at h
  unfold boundR at h
  norm_num at h

/-- The sum over the nucleus. -/
theorem kept_sum (hn : 0 < n) (hN : n ≤ 1048576) {J : ℕ} (hJ : Passes (prob n y) boundR J) :
    S (fun j => if j < J ∨ j = 0 then prob n y j else 0) n = max (S (prob n y) J) (prob n y 0) := by
  have hJn := passes_lt n y hn hN hJ
  rcases Nat.eq_zero_or_pos J with h | h
  · subst h
    have e : (fun j => if j < 0 ∨ j = 0 then prob n y j else 0) = fun j => if j = 0 then prob n y j else 0 := by
      funext j
      simp only [Nat.not_lt_zero, false_or]
    rw [e, S_single _ 0 n hn, S_zero, max_eq_right (prob_nonneg n y hn 0)]
  · rw [S_past _ J n hJn.le fun j hj => if_neg (by omega)]
    have e : S (fun j => if j < J ∨ j = 0 then prob n y j else 0) J = S (prob n y) J :=
      Finset.sum_congr rfl fun j hj => if_pos (.inl (Finset.mem_range.1 hj))
    have h1 : prob n y 0 ≤ S (prob n y) J := by
      have := S_mono (prob n y) (prob_nonneg n y hn) (show 1 ≤ J from h)
      rwa [S_succ, S_zero, zero_add] at this
    rw [e, max_eq_left h1]

theorem kept_sum_pos (hn : 0 < n) (J : ℕ) : 0 < max (S (prob n y) J) (prob n y 0) :=
  lt_of_lt_of_le (prob_pos n y hn 0 hn) (le_max_right _ _)

end Cert.Spec
end
-- ==== Proof.Exchange.lean ====
/- One exchange of the body's sort, read at an entry of the square. -/
module

public import proofs.«01_k».proof.Proof.Network
public import Idealize.ShloMosaic.Lib.ValueIdx
public import Idealize.ShloMosaic.Lib.SortNet.Sorts
public import Idealize.ShloMosaic.Lib.Pipeline.Value

@[expose] public section

set_option maxRecDepth 16384

noncomputable section

namespace Cert.Body

open Idealize.ShloMosaic Idealize.ShloMosaic.ValueIdx

variable {F : FTy → Type} [FloatOps F]

theorem blocks : ∀ D : Fin 10, 512 / 2 ^ D.val * 2 ^ D.val = 512 := by decide +kernel

/-- The row of member `h` of pair `g`, `t` rows into its half block. -/
def rowOf (D : Fin 10) (g : Fin (512 / 2 ^ D.val)) (h : Fin 2) (t : Fin (2 ^ D.val)) : Fin 1024 :=
  ⟨(g.val * 2 + h.val) * 2 ^ D.val + t.val, by
    have e := blocks D
    have hg : (g.val + 1) * 2 ^ D.val ≤ 512 := by
      calc (g.val + 1) * 2 ^ D.val ≤ 512 / 2 ^ D.val * 2 ^ D.val := Nat.mul_le_mul_right _ g.isLt
        _ = 512 := e
    have hh : h.val * 2 ^ D.val ≤ 1 * 2 ^ D.val := Nat.mul_le_mul_right _ (by omega)
    have ht := t.isLt
    have e2 : (g.val * 2 + h.val) * 2 ^ D.val = 2 * (g.val * 2 ^ D.val) + h.val * 2 ^ D.val := by ring
    have e3 : (g.val + 1) * 2 ^ D.val = g.val * 2 ^ D.val + 2 ^ D.val := by ring
    omega⟩

/-- The square cut in pairs, read at member `h` of pair `g`. -/
theorem pairs_at (D : Fin 10) (x : FVec F Sq .f32) (g : Fin (512 / 2 ^ D.val)) (h : Fin 2) (t : Fin (2 ^ D.val)) (c : Fin 1024) :
    shapeCast (Pairs D) x (sq_pairs D) (ix4 g h t c) = x (ix2 (rowOf D g h t) c) := by
  refine shapeCast_apply x _ _ _ ?_
  rw [Shape.rowMajor_val_two, Shape.rowMajor_val_four]
  rfl

/-- A member without its pair axis. -/
theorem half_at (D : Fin 10) (y : FVec F (Member D) .f32) (g : Fin (512 / 2 ^ D.val)) (t : Fin (2 ^ D.val)) (c : Fin 1024) :
    shapeCast (Half D) y (member_half D) (ix3 g t c) = y (ix4 g 0 t c) := by
  refine shapeCast_apply y _ _ _ ?_
  rw [Shape.rowMajor_val_three, Shape.rowMajor_val_four]
  show ((g.val * 1 + 0) * 2 ^ D.val + t.val) * 1024 + c.val = (g.val * 2 ^ D.val + t.val) * 1024 + c.val
  rw [Nat.mul_one, Nat.add_zero]

/-- A member with its pair axis. -/
theorem member_at (D : Fin 10) (y : FVec F (Half D) .f32) (g : Fin (512 / 2 ^ D.val)) (t : Fin (2 ^ D.val)) (c : Fin 1024) :
    shapeCast (Member D) y (half_member D) (ix4 g 0 t c) = y (ix3 g t c) := by
  refine shapeCast_apply y _ _ _ ?_
  rw [Shape.rowMajor_val_three, Shape.rowMajor_val_four]
  show (g.val * 2 ^ D.val + t.val) * 1024 + c.val = ((g.val * 1 + 0) * 2 ^ D.val + t.val) * 1024 + c.val
  rw [Nat.mul_one, Nat.add_zero]

/-- The earlier member of a pair. -/
theorem lower_at (D : Fin 10) (x : FVec F Sq .f32) (g : Fin (512 / 2 ^ D.val)) (t : Fin (2 ^ D.val)) (c : Fin 1024) :
    lower D x (ix3 g t c) = x (ix2 (rowOf D g 0 t) c) := by
  unfold lower
  rw [half_at, ← pairs_at D x g 0 t c]
  show shapeCast (Pairs D) x (sq_pairs D) _ = _
  congr 1
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

/-- The later member of a pair. -/
theorem upper_at (D : Fin 10) (x : FVec F Sq .f32) (g : Fin (512 / 2 ^ D.val)) (t : Fin (2 ^ D.val)) (c : Fin 1024) :
    upper D x (ix3 g t c) = x (ix2 (rowOf D g 1 t) c) := by
  unfold upper
  rw [half_at, ← pairs_at D x g 1 t c]
  show shapeCast (Pairs D) x (sq_pairs D) _ = _
  congr 1
  funext a
  match a with
  | ⟨0, _⟩ => exact Fin.ext (Nat.zero_add _)
  | ⟨1, _⟩ => exact Fin.ext (Nat.add_zero _)
  | ⟨2, _⟩ => exact Fin.ext (Nat.zero_add _)
  | ⟨3, _⟩ => exact Fin.ext (Nat.zero_add _)

/-- A rejoined square at an entry of the pairs. -/
theorem rejoin_at (D : Fin 10) (a b : FVec F (Half D) .f32) (g : Fin (512 / 2 ^ D.val)) (h : Fin 2) (t : Fin (2 ^ D.val)) (c : Fin 1024) :
    rejoin D a b (ix2 (rowOf D g h t) c)
      = concatenate (Pairs D) 1 [⟨Member D, shapeCast (Member D) a (half_member D)⟩, ⟨Member D, shapeCast (Member D) b (half_member D)⟩]
          (members_join D) (ix4 g h t c) := by
  unfold rejoin
  refine shapeCast_apply _ _ _ _ ?_
  rw [Shape.rowMajor_val_two, Shape.rowMajor_val_four]
  rfl

/-- A rejoined square at an earlier member. -/
theorem rejoin_lower (D : Fin 10) (a b : FVec F (Half D) .f32) (g : Fin (512 / 2 ^ D.val)) (t : Fin (2 ^ D.val)) (c : Fin 1024) :
    rejoin D a b (ix2 (rowOf D g 0 t) c) = a (ix3 g t c) := by
  rw [rejoin_at, ← member_at D a g t c]
  refine concatenate_pair_apply_left 1 _ _ (members_join D) (ix4 g 0 t c) rfl (ix4 g 0 t c) ?_
  intro b'
  match b' with
  | ⟨0, _⟩ => rfl
  | ⟨1, _⟩ => rfl
  | ⟨2, _⟩ => rfl
  | ⟨3, _⟩ => rfl

/-- A rejoined square at a later member. -/
theorem rejoin_upper (D : Fin 10) (a b : FVec F (Half D) .f32) (g : Fin (512 / 2 ^ D.val)) (t : Fin (2 ^ D.val)) (c : Fin 1024) :
    rejoin D a b (ix2 (rowOf D g 1 t) c) = b (ix3 g t c) := by
  rw [rejoin_at, ← member_at D b g t c]
  refine concatenate_pair_apply_right 1 _ _ (members_join D) (ix4 g 1 t c) rfl rfl (ix4 g 0 t c) ?_ rfl
  intro b' hb
  match b' with
  | ⟨0, _⟩ => rfl
  | ⟨1, _⟩ => exact absurd rfl hb
  | ⟨2, _⟩ => rfl
  | ⟨3, _⟩ => rfl

/-- A bit of a product with a power of two, read off 32-bit words. -/
theorem word_bit (n k : ℕ) (hn : n < 2 ^ 32) (hk : k < 32) :
    IntOp.cmpi .ne (IntOp.andi (BitVec.ofNat 32 n) (BitVec.ofNat 32 (2 ^ k))) 0#32 = BitVec.ofBool (n.testBit k) := by
  unfold IntOp.cmpi IntOp.andi
  congr 1
  have e : (BitVec.ofNat 32 n &&& BitVec.ofNat 32 (2 ^ k)) = BitVec.ofNat 32 (n &&& 2 ^ k) := by
    apply BitVec.eq_of_toNat_eq
    have hk2 : 2 ^ k < 2 ^ 32 := Nat.pow_lt_pow_right (by decide) hk
    rw [BitVec.toNat_and, BitVec.toNat_ofNat, BitVec.toNat_ofNat, BitVec.toNat_ofNat, Nat.mod_eq_of_lt hn, Nat.mod_eq_of_lt hk2,
      Nat.mod_eq_of_lt (Nat.lt_of_le_of_lt Nat.and_le_left hn)]
  have hb := SortNet.and_two_pow_eq_zero_iff_testBit n k
  show ((BitVec.ofNat 32 n &&& BitVec.ofNat 32 (2 ^ k)) != 0#32) = n.testBit k
  rw [e]
  have hz : BitVec.ofNat 32 (n &&& 2 ^ k) = 0#32 ↔ n &&& 2 ^ k = 0 := by
    constructor
    · intro h
      have h2 := congrArg BitVec.toNat h
      rwa [BitVec.toNat_ofNat, Nat.mod_eq_of_lt (Nat.lt_of_le_of_lt Nat.and_le_left hn)] at h2
    · intro h; rw [h]
  cases ht : n.testBit k
  · rw [hz.2 (hb.2 ht)]; rfl
  · have : BitVec.ofNat 32 (n &&& 2 ^ k) ≠ 0#32 := by
      rw [Ne, hz, hb, ht]; decide
    simpa using this

/-- A mask that holds exactly where `P` holds of the pair's earlier row and the lane. -/
def Marks (D : Fin 10) (mask : IVec (Half D) 1) (P : ℕ → ℕ → Bool) : Prop :=
  ∀ (g : Fin (512 / 2 ^ D.val)) (t : Fin (2 ^ D.val)) (c : Fin 1024), mask (ix3 g t c) = BitVec.ofBool (P (rowOf D g 0 t).val c.val)

/-- The mask by a bit of the row. -/
theorem byRow_marks (k : ℕ) (D : Fin 10) (hk : D.val < k) (hk' : k < 32) : Marks D (byRow k D) fun r _ => r.testBit k := by
  intro g t c
  unfold byRow
  rw [broadcastTo_apply _ _ (ix3 g t c) (ix3 g 0 0) ?hb, shapeCast_apply _ _ (ix3 g 0 0) (ix3 g 0 0) rfl]
  case hb =>
    intro a
    match a with
    | ⟨0, _⟩ =>
      show g.val = if 512 / 2 ^ D.val = 1 then 0 else g.val
      by_cases h : 512 / 2 ^ D.val = 1
      · refine Eq.trans ?_ (if_pos h).symm
        have := g.isLt; omega
      · exact (if_neg h).symm
    | ⟨1, _⟩ => rfl
    | ⟨2, _⟩ => rfl
  show IntOp.cmpi .ne (IntOp.andi (IntOp.muli (iota .tc (Groups D) 32 [0] (groups_iota D) (ix3 g 0 0)) (BitVec.ofNat 32 (2 * 2 ^ D.val)))
    (BitVec.ofNat 32 (2 ^ k))) 0#32 = _
  have ei : iota .tc (Groups D) 32 [0] (groups_iota D) (ix3 g 0 0) = BitVec.ofNat 32 g.val := by
    show BitVec.ofNat 32 (0 * (512 / 2 ^ D.val) + g.val) = _
    rw [Nat.zero_mul, Nat.zero_add]
  have em : IntOp.muli (BitVec.ofNat 32 g.val) (BitVec.ofNat 32 (2 * 2 ^ D.val)) = BitVec.ofNat 32 (g.val * (2 * 2 ^ D.val)) := by
    show BitVec.ofNat 32 g.val * BitVec.ofNat 32 (2 * 2 ^ D.val) = _
    exact (BitVec.ofNat_mul ..).symm
  have hr := (rowOf D g 0 t).isLt
  have er : (rowOf D g 0 t).val = 2 ^ (D.val + 1) * g.val + t.val := by
    show (g.val * 2 + 0) * 2 ^ D.val + t.val = _
    rw [Nat.pow_succ]; ring
  have e2 : g.val * (2 * 2 ^ D.val) = 2 ^ (D.val + 1) * g.val + 0 := by rw [Nat.pow_succ]; ring
  have ht : t.val < 2 ^ (D.val + 1) := by have := t.isLt; rw [Nat.pow_succ]; omega
  rw [ei, em, word_bit _ _ (by omega) hk']
  show BitVec.ofBool _ = BitVec.ofBool ((rowOf D g 0 t).val.testBit k)
  rw [er, e2, Nat.testBit_two_pow_mul_add _ ht,
    Nat.testBit_two_pow_mul_add _ (Nat.two_pow_pos _), if_neg (by omega), if_neg (by omega)]

/-- The mask by a bit of the lane. -/
theorem byLane_marks (k : ℕ) (D : Fin 10) (hk' : k < 32) : Marks D (byLane k D) fun _ c => c.testBit k := by
  intro g t c
  unfold byLane
  rw [broadcastTo_apply _ _ (ix3 g t c) (ix3 0 0 c) ?hb, shapeCast_apply _ _ (ix3 0 0 c) (ix3 0 0 c) rfl]
  case hb =>
    intro a
    match a with
    | ⟨0, _⟩ => rfl
    | ⟨1, _⟩ => rfl
    | ⟨2, _⟩ => rfl
  show IntOp.cmpi .ne (IntOp.andi (iota .tc Lanes 32 [2] lanes_iota (ix3 0 0 c)) (BitVec.ofNat 32 (2 ^ k))) 0#32 = _
  have ei : iota .tc Lanes 32 [2] lanes_iota (ix3 0 0 c) = BitVec.ofNat 32 c.val := by
    show BitVec.ofNat 32 (0 * 1024 + c.val) = _
    rw [Nat.zero_mul, Nat.zero_add]
  rw [ei, word_bit _ _ (by omega) hk']

end Cert.Body
end
-- ==== Proof.SortValue.lean ====
/- The body's sort is the bitonic network on the row-major order of the square. -/
module

public import proofs.«01_k».proof.Proof.Exchange
public import Idealize.ShloMosaic.Lib.SortNet.Sorts

@[expose] public section

set_option maxRecDepth 16384

noncomputable section

namespace Cert.Body

open Idealize.ShloMosaic Idealize.ShloMosaic.ValueIdx Idealize.ShloMosaic.SortNet

/-- The square's entries, row after row. -/
def flatN (x : FVec Ideal Sq .f32) : Fin (2 ^ 20) → EReal :=
  fun i => x (ix2 (⟨i.val / 1024, by have := i.isLt; omega⟩ : Fin 1024) (⟨i.val % 1024, by omega⟩ : Fin 1024))
/-- The square's entries, lane after lane. -/
def flatT (x : FVec Ideal Sq .f32) : Fin (2 ^ 20) → EReal :=
  fun i => x (ix2 (⟨i.val % 1024, by omega⟩ : Fin 1024) (⟨i.val / 1024, by have := i.isLt; omega⟩ : Fin 1024))

/-- A flipped square at an entry. -/
theorem flip_at (x : FVec Ideal Sq .f32) (r c : Fin 1024) : flip x (ix2 r c) = x (ix2 c r) := by
  unfold flip
  refine transpose_apply _ x sq_transposes _ _ ?_
  intro b
  match b with
  | ⟨0, _⟩ => rfl
  | ⟨1, _⟩ => rfl

theorem flatT_flip (x : FVec Ideal Sq .f32) : flatT (flip x) = flatN x := funext fun i => flip_at x _ _
theorem flatN_flip (x : FVec Ideal Sq .f32) : flatN (flip x) = flatT x := funext fun i => flip_at x _ _

/-- The greater entry where `w` holds, else the lesser. -/
def first (w : Bool) (a b : EReal) : EReal := if w then max a b else min a b

/-- An exchange at the earlier member of a pair. -/
theorem exchange_lower (D : Fin 10) (mask : IVec (Half D) 1) (P : ℕ → ℕ → Bool) (hP : Marks D mask P) (x : FVec Ideal Sq .f32)
    (g : Fin (512 / 2 ^ D.val)) (t : Fin (2 ^ D.val)) (c : Fin 1024) :
    exchange D mask x (ix2 (rowOf D g 0 t) c)
      = first (!P (rowOf D g 0 t).val c.val) (x (ix2 (rowOf D g 0 t) c)) (x (ix2 (rowOf D g 1 t) c)) := by
  unfold exchange
  rw [rejoin_lower, select_apply, hP g t c, minimumf_apply, maximumf_apply, lower_at, upper_at]
  cases P (rowOf D g 0 t).val c.val <;> rfl

/-- An exchange at the later member of a pair. -/
theorem exchange_upper (D : Fin 10) (mask : IVec (Half D) 1) (P : ℕ → ℕ → Bool) (hP : Marks D mask P) (x : FVec Ideal Sq .f32)
    (g : Fin (512 / 2 ^ D.val)) (t : Fin (2 ^ D.val)) (c : Fin 1024) :
    exchange D mask x (ix2 (rowOf D g 1 t) c)
      = first (P (rowOf D g 0 t).val c.val) (x (ix2 (rowOf D g 0 t) c)) (x (ix2 (rowOf D g 1 t) c)) := by
  unfold exchange
  rw [rejoin_upper, select_apply, hP g t c, minimumf_apply, maximumf_apply, lower_at, upper_at]
  cases P (rowOf D g 0 t).val c.val <;> rfl

/-- A function that exchanges every pair of partners is the stage applied. -/
theorem eq_stage (s : ℕ) (hs : s < 20) (w : Fin (2 ^ 20) → Bool) (u v : Fin (2 ^ 20) → EReal)
    (hl : ∀ i : Fin (2 ^ 20), i.val &&& 2 ^ s = 0 → u i = first (w i) (v i) (v (partner 20 s i)))
    (hu : ∀ i : Fin (2 ^ 20), i.val &&& 2 ^ s = 0 → u (partner 20 s i) = first (!w i) (v i) (v (partner 20 s i))) :
    u = Network.apply (stage 20 s w) v := by
  funext j
  by_cases hj : j.val &&& 2 ^ s = 0
  · rw [(apply_stage hs w v j hj).1, hl j hj]; rfl
  · have hc := partner_and_of_set hs j hj
    have h1 := (apply_stage hs w v _ hc).2
    have h2 := hu _ hc
    rw [partner_partner hs] at h1 h2
    rw [h1, h2]
    unfold first
    cases w (partner 20 s j) <;> rfl

/-- A row with bit `D` clear is the earlier member of its pair. -/
theorem row_split (D : Fin 10) (r : ℕ) (hr : r < 1024) (hb : r / 2 ^ D.val % 2 = 0) :
    ∃ (g : Fin (512 / 2 ^ D.val)) (t : Fin (2 ^ D.val)), r = (rowOf D g 0 t).val ∧ r + 2 ^ D.val = (rowOf D g 1 t).val := by
  have h1 := Nat.div_add_mod r (2 ^ D.val)
  have h2 := Nat.div_add_mod (r / 2 ^ D.val) 2
  have e := blocks D
  have hpos := Nat.two_pow_pos D.val
  refine ⟨⟨r / 2 ^ D.val / 2, ?_⟩, ⟨r % 2 ^ D.val, Nat.mod_lt _ hpos⟩, ?_, ?_⟩
  · have : r / 2 ^ D.val < 512 / 2 ^ D.val * 2 := by
      rw [Nat.div_lt_iff_lt_mul hpos]
      calc r < 512 * 2 := hr
        _ = 512 / 2 ^ D.val * 2 ^ D.val * 2 := by rw [e]
        _ = _ := by ring
    omega
  · show r = (r / 2 ^ D.val / 2 * 2 + 0) * 2 ^ D.val + r % 2 ^ D.val
    have : r / 2 ^ D.val / 2 * 2 + 0 = r / 2 ^ D.val := by omega
    rw [this, Nat.mul_comm]; exact h1.symm
  · show r + 2 ^ D.val = (r / 2 ^ D.val / 2 * 2 + 1) * 2 ^ D.val + r % 2 ^ D.val
    have : r / 2 ^ D.val / 2 * 2 + 1 = r / 2 ^ D.val + 1 := by omega
    rw [this, Nat.add_mul, Nat.mul_comm (r / 2 ^ D.val)]; omega

theorem clear_iff (i s : ℕ) : i &&& 2 ^ s = 0 ↔ i / 2 ^ s % 2 = 0 := by
  rw [and_two_pow_eq_zero_iff_testBit, Nat.testBit_eq_decide_div_mod_eq]
  simp

theorem pow_le (D : Fin 10) : 2 ^ D.val * 2 ∣ 1024 := by
  have : (1024 : ℕ) = 2 ^ D.val * 2 * 2 ^ (9 - D.val) := by
    rw [show (1024 : ℕ) = 2 ^ 10 from rfl, ← Nat.pow_succ, ← Nat.pow_add]; congr 1; omega
  exact ⟨_, this⟩

/-- An exchange along the rows is a near stage of the lane-after-lane order. -/
theorem exchange_flatT (D : Fin 10) (mask : IVec (Half D) 1) (P : ℕ → ℕ → Bool) (hP : Marks D mask P) (x : FVec Ideal Sq .f32) :
    flatT (exchange D mask x) = Network.apply (stage 20 D.val fun i => !P (i.val % 1024) (i.val / 1024)) (flatT x) := by
  have hD : D.val < 20 := by omega
  have key : ∀ i : Fin (2 ^ 20), i.val &&& 2 ^ D.val = 0 → ∃ (g : Fin (512 / 2 ^ D.val)) (t : Fin (2 ^ D.val)),
      i.val % 1024 = (rowOf D g 0 t).val ∧ (partner 20 D.val i).val % 1024 = (rowOf D g 1 t).val
        ∧ (partner 20 D.val i).val / 1024 = i.val / 1024 := by
    intro i hi
    rw [partner_val_of_clear hD i hi]
    have hb : i.val % 1024 / 2 ^ D.val % 2 = 0 := by
      have := (clear_iff _ _).1 hi
      obtain ⟨m, hm⟩ := pow_le D
      have e := Nat.mod_add_div i.val 1024
      have h3 : i.val = i.val % 1024 + 2 ^ D.val * (2 * (m * (i.val / 1024))) := by
        conv_lhs => rw [← e]
        rw [show 1024 * (i.val / 1024) = 2 ^ D.val * (2 * (m * (i.val / 1024))) by rw [hm]; ring]
      rw [h3, Nat.add_mul_div_left _ _ (Nat.two_pow_pos _)] at this
      omega
    obtain ⟨g, t, h1, h2⟩ := row_split D _ (Nat.mod_lt _ (by decide)) hb
    have hlt := (rowOf D g 1 t).isLt
    exact ⟨g, t, h1, by omega, by omega⟩
  refine eq_stage D.val hD _ _ _ ?_ ?_
  · intro i hi
    obtain ⟨g, t, h1, h2, h3⟩ := key i hi
    have e1 : (⟨i.val % 1024, by omega⟩ : Fin 1024) = rowOf D g 0 t := Fin.ext h1
    have e2 : (⟨(partner 20 D.val i).val % 1024, by omega⟩ : Fin 1024) = rowOf D g 1 t := Fin.ext h2
    have e3 : (⟨(partner 20 D.val i).val / 1024, by have := (partner 20 D.val i).isLt; omega⟩ : Fin 1024)
      = ⟨i.val / 1024, by have := i.isLt; omega⟩ := Fin.ext h3
    show exchange D mask x _ = first _ (x _) (x _)
    rw [e1, e2, e3, exchange_lower D mask P hP, h1]
  · intro i hi
    obtain ⟨g, t, h1, h2, h3⟩ := key i hi
    have e1 : (⟨i.val % 1024, by omega⟩ : Fin 1024) = rowOf D g 0 t := Fin.ext h1
    have e2 : (⟨(partner 20 D.val i).val % 1024, by omega⟩ : Fin 1024) = rowOf D g 1 t := Fin.ext h2
    have e3 : (⟨(partner 20 D.val i).val / 1024, by have := (partner 20 D.val i).isLt; omega⟩ : Fin 1024)
      = ⟨i.val / 1024, by have := i.isLt; omega⟩ := Fin.ext h3
    show exchange D mask x _ = first _ (x _) (x _)
    rw [e1, e2, e3, exchange_upper D mask P hP, h1, Bool.not_not]

/-- An exchange along the rows is a far stage of the row-after-row order. -/
theorem exchange_flatN (D : Fin 10) (mask : IVec (Half D) 1) (P : ℕ → ℕ → Bool) (hP : Marks D mask P) (x : FVec Ideal Sq .f32) :
    flatN (exchange D mask x) = Network.apply (stage 20 (D.val + 10) fun i => !P (i.val / 1024) (i.val % 1024)) (flatN x) := by
  have hD : D.val + 10 < 20 := by omega
  have key : ∀ i : Fin (2 ^ 20), i.val &&& 2 ^ (D.val + 10) = 0 → ∃ (g : Fin (512 / 2 ^ D.val)) (t : Fin (2 ^ D.val)),
      i.val / 1024 = (rowOf D g 0 t).val ∧ (partner 20 (D.val + 10) i).val / 1024 = (rowOf D g 1 t).val
        ∧ (partner 20 (D.val + 10) i).val % 1024 = i.val % 1024 := by
    intro i hi
    rw [partner_val_of_clear hD i hi]
    have hb : i.val / 1024 / 2 ^ D.val % 2 = 0 := by
      have := (clear_iff _ _).1 hi
      rw [Nat.pow_add, Nat.mul_comm, ← Nat.div_div_eq_div_mul] at this
      exact this
    obtain ⟨g, t, h1, h2⟩ := row_split D _ (by have := i.isLt; omega) hb
    have e : 2 ^ (D.val + 10) = 1024 * 2 ^ D.val := by rw [Nat.pow_add, Nat.mul_comm]
    rw [e]
    refine ⟨g, t, h1, ?_, ?_⟩
    · rw [Nat.add_mul_div_left _ _ (by decide), h2]
    · rw [Nat.add_mul_mod_self_left]
  refine eq_stage (D.val + 10) hD _ _ _ ?_ ?_
  · intro i hi
    obtain ⟨g, t, h1, h2, h3⟩ := key i hi
    have e1 : (⟨i.val / 1024, by have := i.isLt; omega⟩ : Fin 1024) = rowOf D g 0 t := Fin.ext h1
    have e2 : (⟨(partner 20 (D.val + 10) i).val / 1024, by have := (partner 20 (D.val + 10) i).isLt; omega⟩ : Fin 1024) = rowOf D g 1 t := Fin.ext h2
    have e3 : (⟨(partner 20 (D.val + 10) i).val % 1024, by omega⟩ : Fin 1024) = ⟨i.val % 1024, by omega⟩ := Fin.ext h3
    show exchange D mask x _ = first _ (x _) (x _)
    rw [e1, e2, e3, exchange_lower D mask P hP, h1]
  · intro i hi
    obtain ⟨g, t, h1, h2, h3⟩ := key i hi
    have e1 : (⟨i.val / 1024, by have := i.isLt; omega⟩ : Fin 1024) = rowOf D g 0 t := Fin.ext h1
    have e2 : (⟨(partner 20 (D.val + 10) i).val / 1024, by have := (partner 20 (D.val + 10) i).isLt; omega⟩ : Fin 1024) = rowOf D g 1 t := Fin.ext h2
    have e3 : (⟨(partner 20 (D.val + 10) i).val % 1024, by omega⟩ : Fin 1024) = ⟨i.val % 1024, by omega⟩ := Fin.ext h3
    show exchange D mask x _ = first _ (x _) (x _)
    rw [e1, e2, e3, exchange_upper D mask P hP, h1, Bool.not_not]

/-- The stages `m + n − 1`, …, `m` of level `l`. -/
def stages (l m n : ℕ) : Network (2 ^ 20) :=
  (List.range n).reverse.flatMap fun s => stage 20 (s + m) fun i => (decide (i.val &&& 2 ^ (l + 1) = 0)) == true

theorem stages_succ (l m n : ℕ) : stages l m (n + 1)
    = stage 20 (n + m) (fun i => (decide (i.val &&& 2 ^ (l + 1) = 0)) == true) ++ stages l m n := by
  unfold stages
  rw [List.range_succ, List.reverse_append, List.reverse_singleton, List.flatMap_append, List.flatMap_singleton]

theorem level_dir (i l : ℕ) : ((decide (i &&& 2 ^ (l + 1) = 0)) == true) = !i.testBit (l + 1) := by
  have := and_two_pow_eq_zero_iff_testBit i (l + 1)
  cases h : i.testBit (l + 1) <;> simp_all

/-- A sweep whose masks are the bit `l + 1` of the place, lane after lane. -/
theorem sweep_flatT (l : ℕ) (mask : (D : Fin 10) → IVec (Half D) 1) (P : ℕ → ℕ → Bool)
    (hl : ∀ i : Fin (2 ^ 20), P (i.val % 1024) (i.val / 1024) = i.val.testBit (l + 1)) :
    ∀ (n : ℕ) (h : n ≤ 10) (hm : ∀ D : Fin 10, D.val < n → Marks D (mask D) P) (x : FVec Ideal Sq .f32),
      flatT (sweep mask n h x) = Network.apply (stages l 0 n) (flatT x)
  | 0, h, hm, x => rfl
  | n + 1, h, hm, x => by
    show flatT (sweep mask n _ (exchange ⟨n, h⟩ (mask ⟨n, h⟩) x)) = _
    rw [sweep_flatT l mask P hl n _ (fun D hD => hm D (by omega)), exchange_flatT _ _ P (hm ⟨n, h⟩ (Nat.lt_succ_self n)), stages_succ,
      Network.apply_append]
    congr 3
    funext i
    rw [level_dir, hl]

/-- A sweep whose masks are the bit `l + 1` of the place, row after row. -/
theorem sweep_flatN (l : ℕ) (mask : (D : Fin 10) → IVec (Half D) 1) (P : ℕ → ℕ → Bool)
    (hl : ∀ i : Fin (2 ^ 20), P (i.val / 1024) (i.val % 1024) = i.val.testBit (l + 1)) :
    ∀ (n : ℕ) (h : n ≤ 10) (hm : ∀ D : Fin 10, D.val < n → Marks D (mask D) P) (x : FVec Ideal Sq .f32),
      flatN (sweep mask n h x) = Network.apply (stages l 10 n) (flatN x)
  | 0, h, hm, x => rfl
  | n + 1, h, hm, x => by
    show flatN (sweep mask n _ (exchange ⟨n, h⟩ (mask ⟨n, h⟩) x)) = _
    rw [sweep_flatN l mask P hl n _ (fun D hD => hm D (by omega)), exchange_flatN _ _ P (hm ⟨n, h⟩ (Nat.lt_succ_self n)), stages_succ,
      Network.apply_append]
    congr 3
    funext i
    rw [level_dir, hl]

theorem level_short (l : ℕ) : levelNet 20 true l = stages l 0 (l + 1) := rfl

theorem level_long (n : ℕ) : levelNet 20 true (n + 10) = stages (n + 10) 10 (n + 1) ++ stages (n + 10) 0 10 := by
  unfold levelNet
  have : ∀ k, (List.range (k + 10)).reverse.flatMap
      (fun s => stage 20 s fun i => (decide (i.val &&& 2 ^ (n + 10 + 1) = 0)) == true) = stages (n + 10) 10 k ++ stages (n + 10) 0 10 := by
    intro k
    induction k with
    | zero =>
      have e : stages (n + 10) 10 0 = [] := by unfold stages; rw [List.range_zero, List.reverse_nil, List.flatMap_nil]
      rw [e, List.nil_append, Nat.zero_add]
      unfold stages
      simp only [Nat.add_zero]
    | succ k ih =>
      rw [stages_succ, List.append_assoc, ← ih, show k + 1 + 10 = (k + 10) + 1 by omega, List.range_succ, List.reverse_append,
        List.reverse_singleton, List.flatMap_append, List.flatMap_singleton]
  rw [show n + 10 + 1 = (n + 1) + 10 by omega]
  exact this (n + 1)

theorem short_flatT : ∀ (n : ℕ) (h : n ≤ 9) (x : FVec Ideal Sq .f32),
    flatT (shortLevels n h x) = Network.apply (levelsNet 20 true n) (flatT x)
  | 0, h, x => rfl
  | n + 1, h, x => by
    show flatT (sweep (byRow (n + 1)) (n + 1) _ (shortLevels n _ x)) = _
    rw [sweep_flatT n (byRow (n + 1)) (fun r _ => r.testBit (n + 1)) ?_ (n + 1) _ (fun D hD => byRow_marks _ D hD (by omega)),
      short_flatT n, levelsNet_succ, Network.apply_append, level_short]
    intro i
    show (i.val % 2 ^ 10).testBit (n + 1) = _
    rw [Nat.testBit_mod_two_pow, decide_eq_true (by omega : n + 1 < 10), Bool.true_and]

theorem testBit_high (i k : ℕ) : (i / 1024).testBit k = i.testBit (k + 10) := by
  show (i / 2 ^ 10).testBit k = _
  rw [Nat.testBit_div_two_pow]

theorem long_flatN : ∀ (n : ℕ) (h : n ≤ 10) (x : FVec Ideal Sq .f32) (v : Fin (2 ^ 20) → EReal)
    (hx : flatN x = Network.apply (levelsNet 20 true 10) v), flatN (longLevels n h x) = Network.apply (levelsNet 20 true (n + 10)) v
  | 0, h, x, v, hx => by rw [Nat.zero_add]; exact hx
  | n + 1, h, x, v, hx => by
    show flatN (flip (sweep (byLane (n + 1)) 10 _ (flip (sweep (byRow (n + 1)) (n + 1) h (longLevels n _ x))))) = _
    rw [flatN_flip, sweep_flatT (n + 10) (byLane (n + 1)) (fun _ c => c.testBit (n + 1)) ?_ 10 _ (fun D _ => byLane_marks _ D (by omega)),
      flatT_flip, sweep_flatN (n + 10) (byRow (n + 1)) (fun r _ => r.testBit (n + 1)) ?_ (n + 1) _ (fun D hD => byRow_marks _ D hD (by omega)),
      long_flatN n (by omega) x v hx, show n + 1 + 10 = (n + 10) + 1 by omega, levelsNet_succ 20 true (n + 10), Network.apply_append, level_long, Network.apply_append]
    · intro i
      exact testBit_high _ _
    · intro i
      exact testBit_high _ _

/-- The body's sort is the bitonic network. -/
theorem flatN_sorted (x : FVec Ideal Sq .f32) : flatN (sorted x) = Network.apply (sortNet 20 true) (flatN x) := by
  unfold sorted
  rw [sortNet_eq_levelsNet]
  refine long_flatN 10 _ _ _ ?_
  rw [flatN_flip, sweep_flatT 9 (byLane 0) (fun _ c => c.testBit 0) ?_ 10 _ (fun D _ => byLane_marks _ D (by omega)),
    short_flatT, flatT_flip, levelsNet_succ 20 true 9, Network.apply_append, level_short]
  intro i
  exact testBit_high _ _

/-- The sorted square descends. -/
theorem sorted_antitone (x : FVec Ideal Sq .f32) : Antitone (flatN (sorted x)) := by
  rw [flatN_sorted]; exact sortNet_apply_antitone 20 _

/-- The sorted square is a rearrangement. -/
theorem sorted_perm (x : FVec Ideal Sq .f32) : ∃ σ : Equiv.Perm (Fin (2 ^ 20)), flatN (sorted x) = flatN x ∘ σ := by
  rw [flatN_sorted]; exact Network.exists_perm _ _

end Cert.Body
end
-- ==== Proof.ProbsValue.lean ====
/- What the kernel's body stores of a row of finite scores padded with minus infinity: the nucleus of the specification. -/
module

public import proofs.«01_k».proof.Proof.Spec
public import proofs.«01_k».proof.Proof.SortValue
public import Idealize.ShloMosaic.Lib.SortNet.TopList

@[expose] public section

set_option maxRecDepth 16384

noncomputable section

namespace Cert.Body

open Idealize.ShloMosaic Idealize.ShloMosaic.ValueIdx Cert.KernelIdeal Cert.KernelIdeal.Facts₀ Cert.Spec

/-- The first `n` values of `y`, then minus infinity. -/
def pad (n : ℕ) (y : ℕ → ℝ) (j : ℕ) : EReal := if j < n then ((y j : ℝ) : EReal) else ⊥

/-- The square holds the first `n` values of `y` row after row, then minus infinity. -/
def IsPad (X : FVec Ideal Sq .f32) (n : ℕ) (y : ℕ → ℝ) : Prop := ∀ r c : Fin 1024, X (ix2 r c) = pad n y (r.val * 1024 + c.val)

theorem head_at (X : FVec Ideal Sq .f32) : head X = X (ix2 (0 : Fin 1024) (0 : Fin 1024)) := by
  unfold head extractAt extractStridedSlice
  exact congrArg X (funext fun a => match a with | ⟨0, _⟩ => rfl | ⟨1, _⟩ => rfl)

section
variable {X : FVec Ideal Sq .f32} {n : ℕ} {y : ℕ → ℝ} (hX : IsPad X n y) (hn : 0 < n)
include hX hn

theorem head_eq : head X = ((y 0 : ℝ) : EReal) := by
  rw [head_at, hX 0 0]
  exact if_pos hn

omit hX hn in
/-- The exponential of a padded value less a real one. -/
theorem expLess_pad (m : ℝ) (s : FVec Ideal Sq .f32) (z : ℕ → ℝ) (hs : IsPad s n z) :
    IsSq (expLess (m : EReal) s) fun j => if j < n then Real.exp (z j - m) else 0 := by
  intro r c
  show Ideal.exp (Ideal.div (s (ix2 r c) - (m : EReal)) (one (F := Ideal))) = _
  rw [hs r c, one_eq, Ideal.div_coe one_ne_zero, one_div_one, EReal.coe_one, mul_one]
  unfold pad
  dsimp only
  split
  · rw [← EReal.coe_sub]; rfl
  · rw [EReal.bot_sub]; rfl

theorem expLess_eq : IsSq (expLess (head X) X) (expo n y) := by
  rw [head_eq hX hn]
  exact expLess_pad (y 0) X y hX

theorem scale_eq (hN : n ≤ 1048576) : scale X = ((1 / Cert.Spec.mass n y : ℝ) : EReal) := by
  unfold scale
  rw [total_eq (expLess_eq hX hn), S_past (expo n y) n (1024 * 1024) hN (expo_past n y), one_eq]
  show Ideal.div _ _ = _
  have h := (mass_pos n y hn).ne'
  unfold Cert.Spec.mass at h ⊢
  rw [Ideal.div_coe h, ← EReal.coe_mul, one_mul]

/-- The probabilities of the sorted scores. -/
theorem probs_eq (hN : n ≤ 1048576) : IsSq (probs X) (prob n y) := by
  intro r c
  unfold probs
  rw [mulf_apply, broadcast_apply, expLess_eq hX hn r c, scale_eq hX hn hN, ← EReal.coe_mul]
  rfl

/-- The renormalised nucleus. -/
theorem kept_probs (hN : n ≤ 1048576) {J : ℕ} (hJ : Passes (prob n y) boundR J) : IsSq (kept (probs X)) (out n y J) :=
  kept_eq (probs_eq hX hn hN) hJ (prob_nonneg n y hn) (prob_pos n y hn 0 hn)

end

/-- The two descending arrangements of one family agree. -/
theorem arrangement_unique {α : Type} [LinearOrder α] {N : ℕ} (f : Fin N → α) (σ τ : Equiv.Perm (Fin N))
    (h₁ : Antitone (f ∘ σ)) (h₂ : Antitone (f ∘ τ)) : f ∘ σ = f ∘ τ :=
  List.ofFn_injective (SortNet.eq_of_perm_of_descending
    ((Equiv.Perm.ofFn_comp_perm σ f).trans (Equiv.Perm.ofFn_comp_perm τ f).symm)
    (List.pairwise_ofFn.2 fun i j hij => h₁ hij.le) (List.pairwise_ofFn.2 fun i j hij => h₂ hij.le))

/-- A rearrangement of the first `n` places. -/
def extend {n N : ℕ} (h : n ≤ N) (σ : Equiv.Perm (Fin n)) : Equiv.Perm (Fin N) where
  toFun i := if hi : i.val < n then ⟨(σ ⟨i.val, hi⟩).val, (σ ⟨i.val, hi⟩).isLt.trans_le h⟩ else i
  invFun i := if hi : i.val < n then ⟨(σ.symm ⟨i.val, hi⟩).val, (σ.symm ⟨i.val, hi⟩).isLt.trans_le h⟩ else i
  left_inv i := by
    by_cases hi : i.val < n
    · simp only [dif_pos hi, Fin.is_lt, dite_true, Fin.eta, Equiv.symm_apply_apply]
    · simp only [dif_neg hi]
  right_inv i := by
    by_cases hi : i.val < n
    · simp only [dif_pos hi, Fin.is_lt, dite_true, Fin.eta, Equiv.apply_symm_apply]
    · simp only [dif_neg hi]

/-- A function on places as one on numbers. -/
def onNat {n : ℕ} (s : Fin n → ℝ) (j : ℕ) : ℝ := if h : j < n then s ⟨j, h⟩ else 0

theorem onNat_lt {n : ℕ} (s : Fin n → ℝ) (j : ℕ) (h : j < n) : onNat s j = s ⟨j, h⟩ := dif_pos h

/-- The body's sort of a padded row is the descending arrangement of the row, padded. -/
theorem sorted_pad (x : FVec Ideal Sq .f32) (n : ℕ) (hN : n ≤ 2 ^ 20) (s : Fin n → ℝ) (σ : Equiv.Perm (Fin n))
    (hx : IsPad x n (onNat s)) (hσ : Antitone (s ∘ σ)) : IsPad (sorted x) n (onNat (s ∘ σ)) := by
  have hflat : ∀ i : Fin (2 ^ 20), flatN x i = pad n (onNat s) i.val := fun i => by
    refine (hx _ _).trans (congrArg (pad n (onNat s)) ?_)
    show i.val / 1024 * 1024 + i.val % 1024 = i.val
    omega
  have he : ∀ i : Fin (2 ^ 20), (flatN x ∘ extend hN σ) i = pad n (onNat (s ∘ σ)) i.val := fun i => by
    rw [Function.comp_apply, hflat]
    unfold pad
    by_cases hi : i.val < n
    · have e : (extend hN σ i).val = (σ ⟨i.val, hi⟩).val := by
        show (if hi : i.val < n then (⟨(σ ⟨i.val, hi⟩).val, _⟩ : Fin (2 ^ 20)) else i).val = _
        rw [dif_pos hi]
      rw [e, if_pos (σ ⟨i.val, hi⟩).isLt, if_pos hi, onNat_lt _ _ (σ ⟨i.val, hi⟩).isLt, onNat_lt _ _ hi]
      rfl
    · have e : (extend hN σ i).val = i.val := by
        show (if hi : i.val < n then (⟨(σ ⟨i.val, hi⟩).val, _⟩ : Fin (2 ^ 20)) else i).val = _
        rw [dif_neg hi]
      rw [e, if_neg hi, if_neg hi]
  have ha : Antitone (flatN x ∘ extend hN σ) := fun i j hij => by
    rw [he, he]
    unfold pad
    by_cases hj : j.val < n
    · have hi : i.val < n := Nat.lt_of_le_of_lt hij hj
      rw [if_pos hj, if_pos hi, onNat_lt _ _ hj, onNat_lt _ _ hi]
      exact EReal.coe_le_coe_iff.2 (hσ hij)
    · rw [if_neg hj]
      exact bot_le
  obtain ⟨τ, hτ⟩ := sorted_perm x
  have hs := sorted_antitone x
  rw [hτ] at hs
  have hu := hτ.trans (arrangement_unique (flatN x) τ (extend hN σ) hs ha)
  intro r c
  have hlt : r.val * 1024 + c.val < 2 ^ 20 := by have := r.isLt; have := c.isLt; omega
  have h := (congrFun hu ⟨r.val * 1024 + c.val, hlt⟩).trans (he _)
  refine Eq.trans ?_ h
  unfold flatN
  congr 1
  have h1 : (r.val * 1024 + c.val) / 1024 = r.val := by have := c.isLt; omega
  have h2 : (r.val * 1024 + c.val) % 1024 = c.val := by have := c.isLt; omega
  exact congrArg₂ ix2 (Fin.ext h1.symm) (Fin.ext h2.symm)

end Cert.Body
end
-- ==== Proof.KernelRows.lean ====
/- The kernel's rows: the scores padded and laid out as squares, what the body stores of a square, and the results
   laid out as rows again. -/
module

public import proofs.«01_k».proof.Proof.ProbsValue

@[expose] public section

set_option maxRecDepth 16384

noncomputable section

namespace Cert.Body

open Idealize.ShloMosaic Idealize.ShloMosaic.ValueIdx Cert.KernelIdeal Cert.KernelIdeal.Facts₀ Cert.Spec

/-- A matrix with constant columns joined on the right, read at an entry. -/
theorem join_at {α : Type} {A N P M : ℕ} (hM : N + P = M) (x : (⟨2, ![A, N]⟩ : Shape).Idx → α) (y : (⟨2, ![A, P]⟩ : Shape).Idx → α) (v : α)
    (hy : ∀ i, y i = v) (h : Shape.Concatenates [(⟨2, ![A, N]⟩ : Shape), ⟨2, ![A, P]⟩] ⟨2, ![A, M]⟩ 1) (b : Fin A) (j : Fin M) :
    concatenate ⟨2, ![A, M]⟩ 1 [⟨⟨2, ![A, N]⟩, x⟩, ⟨⟨2, ![A, P]⟩, y⟩] h (ix2 b j) = if hj : j.val < N then x (ix2 b ⟨j.val, hj⟩) else v := by
  by_cases hj : j.val < N
  · rw [dif_pos hj]
    refine concatenate_pair_apply_left (t := ⟨2, ![A, M]⟩) (s₁ := ⟨2, ![A, N]⟩) (s₂ := ⟨2, ![A, P]⟩) 1 x y h (ix2 b j) rfl (ix2 b ⟨j.val, hj⟩) ?_
    intro a
    match a with
    | ⟨0, _⟩ => rfl
    | ⟨1, _⟩ => rfl
  · rw [dif_neg hj]
    have hlt : j.val - N < P := by have := j.isLt; omega
    refine (concatenate_pair_apply_right (t := ⟨2, ![A, M]⟩) (s₁ := ⟨2, ![A, N]⟩) (s₂ := ⟨2, ![A, P]⟩) 1 x y h (ix2 b j) rfl rfl
      (ix2 b ⟨j.val - N, hlt⟩) ?_ ?_).trans (hy _)
    · intro a ha
      match a with
      | ⟨0, _⟩ => rfl
      | ⟨1, _⟩ => exact absurd rfl ha
    · show j.val - N + N = j.val
      omega

/-- A matrix whose rows are cut into rows of `C`, read at an entry. -/
theorem cut_at {α : Type} {A R C M : ℕ} (hM : R * C = M) (z : (⟨2, ![A, M]⟩ : Shape).Idx → α)
    (h : (⟨2, ![A, M]⟩ : Shape).ShapeCasts ⟨3, ![A, R, C]⟩) (b : Fin A) (r : Fin R) (c : Fin C) (j : Fin M) (hj : j.val = r.val * C + c.val) :
    shapeCast ⟨3, ![A, R, C]⟩ z h (ix3 b r c) = z (ix2 b j) := by
  refine shapeCast_apply z h _ _ ?_
  rw [Shape.rowMajor_val_two, Shape.rowMajor_val_three]
  show b.val * M + j.val = (b.val * R + r.val) * C + c.val
  rw [hj, ← hM]
  ring

/-- The other way round. -/
theorem joined_at {α : Type} {A R C M : ℕ} (hM : R * C = M) (z : (⟨3, ![A, R, C]⟩ : Shape).Idx → α)
    (h : (⟨3, ![A, R, C]⟩ : Shape).ShapeCasts ⟨2, ![A, M]⟩) (b : Fin A) (r : Fin R) (c : Fin C) (j : Fin M) (hj : j.val = r.val * C + c.val) :
    shapeCast ⟨2, ![A, M]⟩ z h (ix2 b j) = z (ix3 b r c) := by
  refine shapeCast_apply z h _ _ ?_
  rw [Shape.rowMajor_val_two, Shape.rowMajor_val_three]
  show (b.val * R + r.val) * C + c.val = b.val * M + j.val
  rw [hj, ← hM]
  ring

/-- The first columns of a matrix, read at an entry. -/
theorem first_at {α : Type} {A N M : ℕ} (hN : N ≤ M) (z : (⟨2, ![A, M]⟩ : Shape).Idx → α)
    (h : (⟨2, ![A, M]⟩ : Shape).Slices ![0, 0] ⟨2, ![A, N]⟩) (b : Fin A) (k : Fin N) :
    extractStridedSlice ⟨2, ![A, N]⟩ ![0, 0] z h (ix2 b k) = z (ix2 b ⟨k.val, k.isLt.trans_le hN⟩) := by
  refine extractStridedSlice_apply _ z h _ _ fun a => ?_
  match a with
  | ⟨0, _⟩ => exact (Nat.zero_add _).symm
  | ⟨1, _⟩ => exact (Nat.zero_add _).symm

/-- What the body stores of a block that holds a row of finite scores padded: the specification at the descending order. -/
theorem keptOf_at (x0 : FVec Ideal S1x1024x1024 .f32) (n : ℕ) (hn : 0 < n) (hN : n ≤ 1048576) (s : Fin n → ℝ) (σ : Equiv.Perm (Fin n))
    (hx : ∀ r c : Fin 1024, x0 (ix3 (0 : Fin 1) r c) = pad n (onNat s) (r.val * 1024 + c.val)) (hσ : Antitone (s ∘ σ))
    {J : ℕ} (hJ : Passes (prob n (onNat (s ∘ σ))) boundR J) (r c : Fin 1024) :
    keptOf x0 (ix3 (0 : Fin 1) r c) = ((out n (onNat (s ∘ σ)) J (r.val * 1024 + c.val) : ℝ) : EReal) := by
  unfold keptOf
  have hX : IsPad (shapeCast S1024x1024 x0 shapeCasts_S1x1024x1024_S1024x1024) n (onNat s) := fun r c => by
    refine (shapeCast_apply x0 _ _ (ix3 (0 : Fin 1) r c) ?_).trans (hx r c)
    rw [Shape.rowMajor_val_two, Shape.rowMajor_val_three]
    show (0 * 1024 + r.val) * 1024 + c.val = r.val * 1024 + c.val
    omega
  refine (shapeCast_apply _ _ _ (ix2 r c) ?_).trans (kept_probs (sorted_pad _ n (by omega) s σ hX hσ) hn hN hJ r c)
  rw [Shape.rowMajor_val_two, Shape.rowMajor_val_three]
  show r.val * 1024 + c.val = (0 * 1024 + r.val) * 1024 + c.val
  omega

end Cert.Body
end
-- ==== Proof.KernelValue.lean ====
/- The kernel's second result, for finite scores: the specification at each row's descending order. -/
module

public import proofs.«01_k».proof.Proof.LaunchRun
public import proofs.«01_k».proof.Proof.KernelRows

@[expose] public section

set_option maxRecDepth 16384

noncomputable section

namespace Cert.KernelIdeal.Launch

open Cert.KernelIdeal Cert.KernelIdeal.Gen Cert.Body Cert.Spec
open Idealize.ShloMosaic Idealize.ShloMosaic.ValueIdx

/-- The padded scores at an entry. -/
theorem padded_at (x : Vec Ideal S16x1000000 .f32) (s : Fin 16 → Fin 1000000 → ℝ) (hx : ∀ b k, x (ix2 b k) = ((s b k : ℝ) : EReal))
    (b : Fin 16) (r c : Fin 1024) : padded x (ix3 b r c) = pad 1000000 (onNat (s b)) (r.val * 1024 + c.val) := by
  have hlt : r.val * 1024 + c.val < 1048576 := by have := r.isLt; have := c.isLt; omega
  unfold padded
  refine (cut_at rfl _ _ b r c ⟨_, hlt⟩ rfl).trans ?_
  refine (join_at rfl x _ (⊥ : EReal) (fun _ => negInf_eq) _ b ⟨_, hlt⟩).trans ?_
  unfold Cert.Body.pad
  by_cases h : r.val * 1024 + c.val < 1000000
  · rw [dif_pos h, if_pos h, hx, onNat_lt _ _ h]
  · rw [dif_neg h, if_neg h]

/-- The second result at an entry. -/
theorem kept_at (x : Vec Ideal S16x1000000 .f32) (s : Fin 16 → Fin 1000000 → ℝ) (hx : ∀ b k, x (ix2 b k) = ((s b k : ℝ) : EReal))
    (σ : Fin 16 → Equiv.Perm (Fin 1000000)) (hσ : ∀ b, Antitone (s b ∘ σ b)) (J : Fin 16 → ℕ)
    (hJ : ∀ b, Passes (prob 1000000 (onNat (s b ∘ σ b))) boundR (J b)) (b : Fin 16) (k : Fin 1000000) :
    trimmed (keptAll (padded x)) (ix2 b k) = ((out 1000000 (onNat (s b ∘ σ b)) (J b) k.val : ℝ) : EReal) := by
  have hk := k.isLt
  have hr : k.val / 1024 < 1024 := by omega
  have hc : k.val % 1024 < 1024 := Nat.mod_lt _ (by omega)
  have hrc : k.val / 1024 * 1024 + k.val % 1024 = k.val := Nat.div_add_mod' _ _
  unfold trimmed
  refine (first_at (by omega) _ _ b k).trans ?_
  refine (joined_at rfl _ _ b ⟨k.val / 1024, hr⟩ ⟨k.val % 1024, hc⟩ _ hrc.symm).trans ?_
  refine (keptOf_at (blockAt (padded x) b) 1000000 (by omega) (by omega) (s b) (σ b) (fun r c => padded_at x s hx b r c) (hσ b) (hJ b)
    ⟨k.val / 1024, hr⟩ ⟨k.val % 1024, hc⟩).trans ?_
  rw [show (⟨k.val / 1024, hr⟩ : Fin 1024).val * 1024 + (⟨k.val % 1024, hc⟩ : Fin 1024).val = k.val from hrc]

end Cert.KernelIdeal.Launch
end
-- ==== Proof.RefTerms.lean ====
/- The reference's results as readable functions of its argument. -/
module

public import proofs.«01_k».proof.Proof.RefFrame
public import Idealize.ShloMosaic.Lib.Tactic

@[expose] public section

set_option maxRecDepth 16384

noncomputable section

namespace Cert.Ref

open Cert.ReferenceIdeal Cert.ReferenceIdeal.Facts₀
open Idealize.ShloMosaic Idealize.SL.Sem Idealize.ShloMosaic.StableHlo Idealize.ShloMosaic.Tactic

variable {F : FTy → Type} [FloatOps F] [hF : Facts]

/-- One constant in every place. -/
def every (w : BitVec 32) : Vec F S16x1000000 .f32 := broadcastInDim S16x1000000 ![] bcast_S_S16x1000000 (constant S_ .f32 w)

/-- A number for each row, in every place of the row. -/
def along (x : Vec F S16 .f32) : Vec F S16x1000000 .f32 :=
  broadcastInDim S16x1000000 ![0, 1] bcast_S16x1_S16x1000000_0_1 (broadcastInDim S16x1 ![0] bcast_S16_S16x1_0 x)

/-- The sum of each row. -/
def rowSum (x : Vec F S16x1000000 .f32) : Vec F S16 .f32 :=
  Host.reduceAdd x (constant S_ .f32 0x00000000#32) reducesTo_S16x1000000_S16_d1 h_S_

/-- The scores over the temperature. -/
def scaled (x : Vec F S16x1000000 .f32) : Vec F S16x1000000 .f32 := Host.divf x (every 0x3F800000#32)

/-- The greatest of each row. -/
def rowMax (x : Vec F S16x1000000 .f32) : Vec F S16 .f32 :=
  maximumf (broadcastInDim S16 ![] bcast_S_S16 (constant S_ .f32 0xFF800000#32))
    (Host.reduce FloatOps.maximumf x (constant S_ .f32 0xFF800000#32) reducesTo_S16x1000000_S16_d1 h_S_)

/-- The exponentials of the differences to the greatest. -/
def exps (x : Vec F S16x1000000 .f32) : Vec F S16x1000000 .f32 := Host.exp (subf (scaled x) (along (rowMax (scaled x))))

/-- The softmax. -/
def soft (x : Vec F S16x1000000 .f32) : Vec F S16x1000000 .f32 := Host.divf (exps x) (along (rowSum (exps x)))

/-- The places in descending order of probability. -/
def order (x : Vec F S16x1000000 .f32) : IVec S16x1000000 32 :=
  (Host.sort2 S16x1000000 1 comparator_f32_i32_d1 (Host.negf (soft x)) (iotaInDim S16x1000000 32 1)).2

/-- An index array, a negative one counted from the end. -/
def fromEnd (i : IVec S16x1000000 32) : IVec S16x1000000x1 32 :=
  shapeCast S16x1000000x1
    (select (cmpi .slt i (broadcastInDim S16x1000000 ![] bcast_S_S16x1000000 (constantI S_ 32 0#32)))
      (addi i (broadcastInDim S16x1000000 ![] bcast_S_S16x1000000 (constantI S_ 32 1000000#32))) i)
    shapeCasts_S16x1000000_S16x1000000x1

/-- Which indices lie in the row. -/
def inRow (i : IVec S16x1000000x1 32) : IVec S16x1000000 1 :=
  Host.reduce IntOp.andi
    (andi (cmpi .sge i (broadcastInDim S16x1000000x1 ![] bcast_S_S16x1000000x1 (constantI S_ 32 0#32)))
      (cmpi .sle i (broadcastInDim S16x1000000x1 ![0, 1, 2] bcast_S1x1x1_S16x1000000x1_0_1_2
        (broadcastInDim S1x1x1 ![2] bcast_S1_S1x1x1_2 (constantI S1 32 999999#32)))))
    (constantI S_ 1 1#1) reducesTo_S16x1000000x1_S16x1000000_d2 h_S_

/-- Each row read at its row of indices. -/
def taken (x : Vec F S16x1000000 .f32) (i : IVec S16x1000000 32) : Vec F S16x1000000 .f32 :=
  select (inRow (fromEnd i)) (Host.gather gather_S16x1000000_S16x1000000x1_S16x1000000_n_1_0_0_1_2_11 x (fromEnd i))
    (every 0x7FC00000#32)

/-- The probabilities in descending order. -/
def down (x : Vec F S16x1000000 .f32) : Vec F S16x1000000 .f32 := taken (soft x) (order x)

/-- The running sum along each row. -/
def running (x : Vec F S16x1000000 .f32) : Vec F S16x1000000 .f32 :=
  Host.reduceWindowAdd ![1, 1000000] ![1, 1] ![0, 999999] ![0, 0] x
    (broadcastInDim S_ ![] bcast_S_S_ (constant S_ .f32 0x00000000#32))
    reduceWindows_S16x1000000_S16x1000000_w1s1p0_0_w1000000s1p999999_0 h_S_

/-- The nucleus: the running sum within the bound, and the first place always. -/
def keep (x : Vec F S16x1000000 .f32) : IVec S16x1000000 1 :=
  Host.scatter scatter_S16x1000000_S1_S16_0_1_1_0 (fun _ b => b)
    (cmpf .ole (running (down x)) (every 0x3F666666#32))
    (broadcastInDim S1 ![] bcast_S_S1 (constantI S_ 32 0#32))
    (broadcastInDim S16 ![] bcast_S_S16 (constantI S_ 1 1#1))

/-- The probabilities in the nucleus, zero elsewhere. -/
def masked (x : Vec F S16x1000000 .f32) : Vec F S16x1000000 .f32 := select (keep x) (down x) (every 0x00000000#32)

/-- The nucleus's probabilities, renormalised. -/
def nucleus (x : Vec F S16x1000000 .f32) : Vec F S16x1000000 .f32 := Host.divf (masked x) (along (rowSum (masked x)))

/-- The logarithms of the renormalised probabilities, minus infinity outside the nucleus. -/
def logits (x : Vec F S16x1000000 .f32) : Vec F S16x1000000 .f32 :=
  select (keep x) (Host.log (maximumf (nucleus x) (every 0x0DA24260#32))) (every 0xFF800000#32)

/-- The first place of the greatest of each row. -/
def firstMax (x : Vec F S16x1000000 .f32) : IVec S16 32 := fun j =>
  (Host.argReduce reducer_argmax_f32_i32 x (iotaInDim S16x1000000 32 1) (constant S_ .f32 0xFF800000#32) (constantI S_ 32 0#32)
    reducesTo_S16x1000000_S16_d1 h_S_ j).2

/-- An index for each row, a negative one counted from the end. -/
def fromEnd1 (i : IVec S16x1 32) : IVec S16x1x1 32 :=
  shapeCast S16x1x1
    (select (cmpi .slt i (broadcastInDim S16x1 ![] bcast_S_S16x1 (constantI S_ 32 0#32)))
      (addi i (broadcastInDim S16x1 ![] bcast_S_S16x1 (constantI S_ 32 1000000#32))) i)
    shapeCasts_S16x1_S16x1x1

/-- Whether each row's index lies in the row. -/
def inRow1 (i : IVec S16x1x1 32) : IVec S16x1 1 :=
  Host.reduce IntOp.andi
    (andi (cmpi .sge i (broadcastInDim S16x1x1 ![] bcast_S_S16x1x1 (constantI S_ 32 0#32)))
      (cmpi .sle i (broadcastInDim S16x1x1 ![0, 1, 2] bcast_S1x1x1_S16x1x1_0_1_2
        (broadcastInDim S1x1x1 ![2] bcast_S1_S1x1x1_2 (constantI S1 32 999999#32)))))
    (constantI S_ 1 1#1) reducesTo_S16x1x1_S16x1_d2 h_S_

/-- Each row of indices read at one place. -/
def picked (x : IVec S16x1000000 32) (i : IVec S16x1 32) : IVec S16x1 32 :=
  select (inRow1 (fromEnd1 i)) (Host.gather gather_S16x1000000_S16x1x1_S16x1_n_1_0_0_1_2_11 x (fromEnd1 i))
    (broadcastInDim S16x1 ![] bcast_S_S16x1 (constantI S_ 32 2147483648#32))

/-- The index of the token drawn with the noise `g`. -/
def drawn (x g : Vec F S16x1000000 .f32) : IVec S16 32 :=
  shapeCast S16 (picked (order x) (broadcastInDim S16x1 ![0] bcast_S16_S16x1_0 (firstMax (addf g (logits x)))))
    shapeCasts_S16x1_S16

end Cert.Ref

end
-- ==== Proof.RefOps.lean ====
/- The reference's array operations read at an entry. -/
module

public import proofs.«01_k».proof.Proof.RefTerms
public import proofs.«01_k».proof.Proof.TailValue
public import Idealize.ShloMosaic.Lib.Routing.OpsOne
public import Idealize.ShloMosaic.Lib.SortFacts

@[expose] public section

set_option maxRecDepth 16384

noncomputable section

namespace Cert.Ref

open Cert.ReferenceIdeal Cert.ReferenceIdeal.Facts₀ Cert.Body
open Idealize.ShloMosaic Idealize.ShloMosaic.ValueIdx

/-- The length of a row. -/
abbrev len : ℕ := 1000000

/-! ## A stable sort by a real key -/

/-- Before, in the order of the key, the earlier first among equals. -/
def sooner {n : ℕ} (key : Fin n → ℝ) (a b : Fin n) : Bool := decide (key a < key b ∨ (key a = key b ∧ a < b))

/-- On a list in ascending order the stable sort by the key is the sort by the key and the place. -/
theorem stable_sooner {n : ℕ} (key : Fin n → ℝ) : ∀ l : List (Fin n), l.Pairwise (· < ·) →
    stableSort (fun a b => decide (key a < key b)) l = stableSort (sooner key) l
  | [], _ => rfl
  | a :: l, h => by
    rw [List.pairwise_cons] at h
    unfold stableSort
    rw [stable_sooner key l h.2]
    refine insertBefore_congr _ _ a _ fun b hb => ?_
    have hab := h.1 b ((perm_stableSort (sooner key) l).mem_iff.1 hb)
    unfold sooner
    exact decide_eq_decide.2 ⟨.inl, fun h => h.resolve_right fun q => absurd q.2 (not_lt.2 hab.le)⟩

theorem sortedFrom_sooner {n : ℕ} (key : Fin n → ℝ) :
    sortedFrom (fun a b => decide (key a < key b)) = sortedFrom (sooner key) := by
  have e : sortPositions n (fun a b => decide (key a < key b)) = sortPositions n (sooner key) :=
    stable_sooner key _ (List.pairwise_lt_finRange n)
  funext k
  unfold sortedFrom
  exact List.get_of_eq e _

/-- The places that a stable sort by a real key reads are a permutation, in the order of the key and, among equals, of the place. -/
theorem sorted_places {n : ℕ} (key : Fin n → ℝ) : ∃ σ : Equiv.Perm (Fin n),
    (∀ k, sortedFrom (fun a b => decide (key a < key b)) k = σ k)
      ∧ ∀ i j, i < j → key (σ i) < key (σ j) ∨ (key (σ i) = key (σ j) ∧ σ i < σ j) := by
  refine ⟨Equiv.ofBijective _ ⟨sortedFrom_injective _, sortedFrom_surjective _⟩, fun k => rfl, fun i j hij => ?_⟩
  show key (sortedFrom _ i) < key (sortedFrom _ j) ∨ (key (sortedFrom _ i) = key (sortedFrom _ j) ∧ sortedFrom _ i < sortedFrom _ j)
  have hne : sortedFrom (sooner key) i ≠ sortedFrom (sooner key) j := fun h => hij.ne (sortedFrom_injective _ h)
  rw [sortedFrom_sooner]
  have h := sortedFrom_noInversion (sooner key) (sooner key) (fun a b h => by
      unfold sooner at h ⊢
      rw [decide_eq_true_eq] at h
      rw [decide_eq_false_iff_not]
      rintro (q | q) <;> rcases h with h | h
      · exact lt_asymm h q
      · exact q.ne h.1.symm
      · exact h.ne q.1.symm
      · exact lt_asymm h.2 q.2) (fun _ _ h => h) (fun a b c h1 h2 => by
      unfold sooner at h1 h2 ⊢
      rw [decide_eq_false_iff_not, not_or, not_and, not_lt] at h1 h2 ⊢
      refine ⟨h2.1.trans h1.1, fun e => ?_⟩
      have e1 : key a = key b := le_antisymm (e.trans_le h2.1) h1.1
      exact fun q => h1.2 e1 (lt_of_lt_of_le q (not_lt.1 (h2.2 (e1.symm.trans e))))) i j hij
  unfold sooner at h
  rw [decide_eq_false_iff_not, not_or, not_and, not_lt] at h
  rcases h.1.lt_or_eq with q | q
  · exact .inl q
  · exact .inr ⟨q, lt_of_le_of_ne (not_lt.1 (h.2 q.symm)) hne⟩

/-! ## Reading rows of a matrix at a row of indices -/

/-- The dimension numbers of a gather along the second axis, the first one batching. -/
abbrev rowDims (A N C : ℕ) (wf : GatherDims.WF ⟨2, ![A, N]⟩ ⟨3, ![A, C, 1]⟩ ⟨2, ![A, C]⟩ [] [1] [0] [1] [0] 2 ![1, 1]) :
    GatherDims ⟨2, ![A, N]⟩ ⟨3, ![A, C, 1]⟩ ⟨2, ![A, C]⟩ where
  offsetDims := []
  collapsedSliceDims := [1]
  operandBatchingDims := [0]
  startIndicesBatchingDims := [0]
  startIndexMap := [1]
  indexVectorDim := 2
  sliceSizes := ![1, 1]
  wf := wf

/-- Its entry: the operand's row read at the index, which lies in the row. -/
theorem gather_row {α : Type} {A N C : ℕ} (wf : GatherDims.WF ⟨2, ![A, N]⟩ ⟨3, ![A, C, 1]⟩ ⟨2, ![A, C]⟩ [] [1] [0] [1] [0] 2 ![1, 1])
    (x : (⟨2, ![A, N]⟩ : Shape).Idx → α) (idx : IVec ⟨3, ![A, C, 1]⟩ 32) (b : Fin A) (c : Fin C) (m : Fin N)
    (hm : (idx (ix3 b c (0 : Fin 1))).toInt = (m.val : ℤ)) : Host.gather (rowDims A N C wf) x idx (ix2 b c) = x (ix2 b m) := by
  unfold Host.gather
  refine congrArg x (funext fun a => Fin.ext ?_)
  show (rowDims A N C wf).start (ix2 b c) idx a + (rowDims A N C wf).batchCoord (ix2 b c) a + (rowDims A N C wf).offCoord (ix2 b c) a = _
  have h01 : a = 0 ∨ a = 1 := match a with
    | ⟨0, _⟩ => .inl rfl
    | ⟨1, _⟩ => .inr rfl
  rcases h01 with rfl | rfl
  · rw [GatherDims.start_batching _ _ _ _ (List.mem_singleton.2 rfl),
      GatherDims.offCoord_eq_zero _ _ _ fun h => ((GatherDims.mem_sKept _ _).1 h).2 (List.mem_singleton.2 rfl), Nat.zero_add, Nat.add_zero]
    unfold GatherDims.batchCoord
    rw [dif_pos (List.mem_singleton.2 rfl)]
    rfl
  · rw [GatherDims.batchCoord_eq_zero _ _ _ fun h => by simp at h,
      GatherDims.offCoord_eq_zero _ _ _ fun h => ((GatherDims.mem_sKept _ _).1 h).1 (List.mem_singleton.2 rfl), Nat.add_zero]
    unfold GatherDims.start
    have hin : (1 : Fin 2) ∈ (rowDims A N C wf).startIndexMap := List.mem_singleton.2 rfl
    rw [dif_pos hin]
    have hsi : (rowDims A N C wf).siIdx (ix2 b c) ⟨List.idxOf (1 : Fin 2) (rowDims A N C wf).startIndexMap, List.idxOf_lt_length_iff.2 hin⟩
        = ix3 b c (0 : Fin 1) := by
      funext q
      refine Fin.ext ?_
      match q with
      | ⟨0, _⟩ => rfl
      | ⟨1, _⟩ => rfl
      | ⟨2, _⟩ => rfl
    rw [hsi, hm]
    show min (m.val : ℤ).toNat (N - 1) = m.val
    rw [Int.toNat_natCast]
    have := m.isLt
    omega

/-! ## The running sum -/

theorem foldl_add {ι : Type} (g : ι → EReal) : ∀ (l : List ι) (a : EReal), l.foldl (fun r i => r + g i) a = a + (l.map g).sum
  | [], a => by rw [List.foldl_nil, List.map_nil, List.sum_nil, add_zero]
  | i :: l, a => by rw [List.foldl_cons, foldl_add g l, List.map_cons, List.sum_cons, add_assoc]

/-- A window that ends at place `k`, `N + 1` wide, over values that start at place zero. -/
theorem S_window (f : ℕ → ℝ) (N k : ℕ) (hk : k ≤ N) : ∀ m, S (fun i => if N ≤ k + i then f (k + i - N) else 0) m = S f (k + m - N)
  | 0 => by rw [S_zero, show k + 0 - N = 0 by omega, S_zero]
  | m + 1 => by
    rw [S_succ, S_window f N k hk m]
    by_cases h : N ≤ k + m
    · rw [if_pos h, show k + (m + 1) - N = k + m - N + 1 by omega, S_succ]
    · rw [if_neg h, show k + (m + 1) - N = 0 by omega, show k + m - N = 0 by omega, S_zero, add_zero]

theorem numel_row (n : ℕ) : (⟨2, ![1, n]⟩ : Shape).numel = n := (Shape.numel_rank2 _).trans (Nat.one_mul n)

theorem symm_row (n : ℕ) (i : Fin (⟨2, ![1, n]⟩ : Shape).numel) :
    (⟨2, ![1, n]⟩ : Shape).rowMajor.symm i = ix2 (0 : Fin 1) (i.cast (numel_row n)) := by
  rw [Equiv.symm_apply_eq]
  refine Fin.ext ?_
  rw [Shape.rowMajor_val_two]
  show i.val = 0 * n + i.val
  omega

theorem len_pos : 0 < len := Nat.succ_pos 999999
theorem len_le : len ≤ 1048576 := Nat.le.intro (k := 48576) rfl

/-- A window as wide as the row, padded on the left: the sum of the entries up to a place. -/
theorem window_sum {A N M : ℕ} (hM : N + 1 = M) (x : FVec Ideal ⟨2, ![A, M]⟩ .f32) (f : Fin A → ℕ → ℝ)
    (hx : ∀ b (k : Fin M), x (ix2 b k) = ((f b k.val : ℝ) : EReal)) (init : EReal) (hi : init = ((0 : ℝ) : EReal))
    (h : (⟨2, ![A, M]⟩ : Shape).ReduceWindows (![1, M] : Fin 2 → ℕ) ![1, 1] ![0, N] ![0, 0] ⟨2, ![A, M]⟩) (b : Fin A) (k : Fin M) :
    Ideal.hostReduceWindowAdd ![1, M] ![1, 1] ![0, N] ![0, 0] h x init (ix2 b k) = ((S (f b) (k.val + 1) : ℝ) : EReal) := by
  subst hM
  unfold Ideal.hostReduceWindowAdd Host.reduceWindow
  have hk : k.val ≤ N := Nat.lt_succ_iff.1 k.isLt
  have hb := b.isLt
  dsimp only
  rw [foldl_add, ← Fin.sum_univ_def, hi, EReal.coe_zero, zero_add]
  obtain ⟨g, hg⟩ : ∃ g : ℕ → ℝ, g = fun i => if N ≤ k.val + i then f b (k.val + i - N) else 0 := ⟨_, rfl⟩
  refine (Finset.sum_congr rfl fun i _ => (?_ : _ = ((g i.val : ℝ) : EReal))).trans ((sum_fin _ g).trans ?_)
  · have h0 : ((⟨2, ![1, N + 1]⟩ : Shape).rowMajor.symm i 0).val = 0 := by rw [symm_row]; rfl
    have h1 : ((⟨2, ![1, N + 1]⟩ : Shape).rowMajor.symm i 1).val = i.val := by rw [symm_row]; rfl
    have hn : i.val < N + 1 := (i.cast (numel_row _)).isLt
    split
    · next hin =>
      have q := hin 1
      change N ≤ k.val * 1 + ((⟨2, ![1, N + 1]⟩ : Shape).rowMajor.symm i 1).val
        ∧ k.val * 1 + ((⟨2, ![1, N + 1]⟩ : Shape).rowMajor.symm i 1).val - N < N + 1 at q
      rw [h1] at q
      rw [congrFun hg i.val, if_pos (show N ≤ k.val + i.val by omega)]
      refine (congrArg x (funext fun a => Fin.ext ?_)).trans (hx b ⟨k.val + i.val - N, by omega⟩)
      match a with
      | ⟨0, _⟩ =>
        show b.val * 1 + ((⟨2, ![1, N + 1]⟩ : Shape).rowMajor.symm i 0).val - 0 = b.val
        rw [h0]; omega
      | ⟨1, _⟩ =>
        show k.val * 1 + ((⟨2, ![1, N + 1]⟩ : Shape).rowMajor.symm i 1).val - N = k.val + i.val - N
        rw [h1, Nat.mul_one]
    · next hin =>
      rw [congrFun hg i.val, if_neg fun (hle : N ≤ k.val + i.val) => hin fun a => by
        match a with
        | ⟨0, _⟩ =>
          show 0 ≤ b.val * 1 + ((⟨2, ![1, N + 1]⟩ : Shape).rowMajor.symm i 0).val
            ∧ b.val * 1 + ((⟨2, ![1, N + 1]⟩ : Shape).rowMajor.symm i 0).val - 0 < A
          rw [h0]; omega
        | ⟨1, _⟩ =>
          show N ≤ k.val * 1 + ((⟨2, ![1, N + 1]⟩ : Shape).rowMajor.symm i 1).val
            ∧ k.val * 1 + ((⟨2, ![1, N + 1]⟩ : Shape).rowMajor.symm i 1).val - N < N + 1
          rw [h1]; omega]
      exact EReal.coe_zero.symm
  · rw [hg, S_window (f b) N k.val hk, numel_row, show k.val + (N + 1) - N = k.val + 1 by omega]

/-! ## Setting a column -/

/-- A row's running sums, as the host operation writes them. -/
theorem window_row {A N M : ℕ} (hM : N + 1 = M) (x : FVec Ideal ⟨2, ![A, M]⟩ .f32) (f : Fin A → ℕ → ℝ)
    (hx : ∀ b (k : Fin M), x (ix2 b k) = ((f b k.val : ℝ) : EReal)) (init : FVec Ideal ⟨0, ![]⟩ .f32)
    (hi : ∀ i, init i = ((0 : ℝ) : EReal))
    (h : (⟨2, ![A, M]⟩ : Shape).ReduceWindows (![1, M] : Fin 2 → ℕ) ![1, 1] ![0, N] ![0, 0] ⟨2, ![A, M]⟩) (hs : 0 < (⟨0, ![]⟩ : Shape).numel)
    (b : Fin A) (k : Fin M) :
    Host.reduceWindowAdd (F := Ideal) ![1, M] ![1, 1] ![0, N] ![0, 0] x init h hs (ix2 b k) = ((S (f b) (k.val + 1) : ℝ) : EReal) :=
  window_sum hM x f hx _ (hi _) h b k

/-- One column overwritten: the new value in that column, the operand elsewhere. -/
theorem set_column {α : Type} {A N : ℕ} (d : ScatterDims ⟨2, ![A, N]⟩ ⟨1, ![1]⟩ ⟨1, ![A]⟩) (hiw : d.insertedWindowDims = [1])
    (hsd : d.scatterDimsToOperandDims = [1]) (x : (⟨2, ![A, N]⟩ : Shape).Idx → α) (idx : IVec ⟨1, ![1]⟩ 32)
    (upd : (⟨1, ![A]⟩ : Shape).Idx → α) (v : α) (hu : ∀ j, upd j = v) (k : Fin N)
    (hk : (idx (ix1 0)).toInt = (k.val : ℤ)) (b : Fin A) (c : Fin N) :
    Host.scatter d (fun _ b => b) x idx upd (ix2 b c) = if c = k then v else x (ix2 b c) := by
  by_cases h : c = k
  · rw [if_pos h]
    exact Routing.scatter_set_hit d x idx _ _ v (fun j _ => hu j) (ix1 b) ((Routing.lands_col d hiw hsd idx k hk b b c).2 ⟨rfl, h⟩)
  · rw [if_neg h]
    refine Routing.scatter_set_miss d x idx _ _ fun j hj => h ?_
    rw [eq_ix1 j] at hj
    exact ((Routing.lands_col d hiw hsd idx k hk _ b c).1 hj).2

end Cert.Ref
end
-- ==== Proof.RefValue.lean ====
/- The reference's renormalised nucleus, read at an entry for finite scores. -/
module

public import proofs.«01_k».proof.Proof.RefOps
public import proofs.«01_k».proof.Proof.ProbsValue

@[expose] public section

set_option maxRecDepth 16384

noncomputable section

namespace Cert.Ref

open Cert.ReferenceIdeal Cert.ReferenceIdeal.Facts₀ Cert.Body Cert.Spec
open Idealize.ShloMosaic Idealize.ShloMosaic.ValueIdx

variable [hF : Facts]

/-- The matrix holds the real numbers `f`. -/
def Rows (Q : Vec Ideal S16x1000000 .f32) (f : Fin 16 → Fin len → ℝ) : Prop :=
  ∀ (b : Fin 16) (k : Fin len), Q (ix2 b k) = ((f b k : ℝ) : EReal)

theorem row_reduces : S16x1000000.Reduces [1] S16 := by decide

theorem lift_row (b : Fin 16) (k : Fin len) : row_reduces.lift (ix1 b) k = ix2 b k :=
  funext fun a => match a with | ⟨0, _⟩ => rfl | ⟨1, _⟩ => rfl

theorem along_at (v : Vec Ideal S16 .f32) (b : Fin 16) (k : Fin len) : along v (ix2 b k) = v (ix1 b) := by
  unfold along
  rw [broadcastInDim_apply _ _ _ (ix2 b k) (ix2 b (0 : Fin 1)) (fun a => match a with | ⟨0, _⟩ => rfl | ⟨1, _⟩ => rfl)]
  exact broadcastInDim_apply _ _ _ _ (ix1 b) (fun a => match a with | ⟨0, _⟩ => rfl)

theorem rowSum_at {Q : Vec Ideal S16x1000000 .f32} {f : Fin 16 → Fin len → ℝ} (hQ : Rows Q f) (b : Fin 16) :
    rowSum Q (ix1 b) = ((∑ k, f b k : ℝ) : EReal) := by
  refine (Ideal.hostReduceAdd_single reducesTo_S16x1000000_S16_d1 row_reduces Q (Ideal.ofBits .f32 0x00000000#32) (ix1 b)).trans ?_
  rw [Ideal.ofBits_zero_f32, zero_add, coe_sum]
  exact Finset.sum_congr rfl fun k _ => (congrArg Q (lift_row b k)).trans (hQ b k)

theorem fold_max_eq {ι : Type} [Fintype ι] (g : ι → EReal) (v : EReal) (hle : ∀ i, g i ≤ v) (hex : ∃ i, g i = v) :
    Finset.fold max ⊥ g Finset.univ = v := by
  apply le_antisymm
  · exact (Finset.fold_max_le _).2 ⟨bot_le, fun i _ => hle i⟩
  · obtain ⟨i, hi⟩ := hex
    exact (Finset.le_fold_max _).2 (.inr ⟨i, Finset.mem_univ _, hi.ge⟩)

/-- The maximum along a row. -/
theorem reduce_max (Q : Vec Ideal S16x1000000 .f32) (c : Vec Ideal S_ .f32) (hc : ∀ i, c i = ⊥) (b : Fin 16) (v : EReal)
    (hle : ∀ k : Fin len, Q (ix2 b k) ≤ v) (hex : ∃ k : Fin len, Q (ix2 b k) = v) :
    Host.reduce (FloatOps.maximumf (F := Ideal) (φ := .f32)) Q c reducesTo_S16x1000000_S16_d1 h_S_ (ix1 b) = v := by
  rw [show (FloatOps.maximumf (F := Ideal) (φ := .f32)) = (max : EReal → EReal → EReal) from rfl]
  refine (Host.reduce_eq_fold_single (max : EReal → EReal → EReal) Q c reducesTo_S16x1000000_S16_d1 row_reduces h_S_ (ix1 b)).trans ?_
  rw [hc]
  have e : Q ∘ row_reduces.lift (ix1 b) = fun k : Fin len => Q (ix2 b k) := funext fun k => congrArg Q (lift_row b k)
  rw [e]
  exact fold_max_eq (ι := Fin len) _ v hle hex

theorem rowMax_at {Q : Vec Ideal S16x1000000 .f32} {f : Fin 16 → Fin len → ℝ} (hQ : Rows Q f) (b : Fin 16) (v : ℝ)
    (hle : ∀ k, f b k ≤ v) (hex : ∃ k, f b k = v) : rowMax Q (ix1 b) = ((v : ℝ) : EReal) := by
  have h := reduce_max Q (constant (F := Ideal) S_ .f32 0xFF800000#32) (fun _ => negInf_eq) b ((v : ℝ) : EReal)
    (fun k => (hQ b k).trans_le (EReal.coe_le_coe_iff.2 (hle k)))
    (hex.imp fun k hk => (hQ b k).trans (congrArg Real.toEReal hk))
  unfold rowMax
  rw [maximumf_apply, h]
  show max (Ideal.ofBits .f32 0xFF800000#32) ((v : ℝ) : EReal) = _
  rw [negInf_eq]
  exact max_eq_right bot_le

/-! ## The softmax of a row -/

/-- The greatest of a row. -/
def top (s : Fin len → ℝ) : ℝ := Finset.univ.sup' ⟨⟨0, len_pos⟩, Finset.mem_univ _⟩ s

theorem le_top' (s : Fin len → ℝ) (k : Fin len) : s k ≤ top s := Finset.le_sup' s (Finset.mem_univ k)
theorem top_mem (s : Fin len → ℝ) : ∃ k, s k = top s := by
  obtain ⟨k, _, hk⟩ := Finset.exists_mem_eq_sup' (⟨⟨0, len_pos⟩, Finset.mem_univ _⟩ : (Finset.univ : Finset (Fin len)).Nonempty) s
  exact ⟨k, hk.symm⟩

/-- The softmax of a row. -/
def softR (s : Fin len → ℝ) (k : Fin len) : ℝ := Real.exp (s k - top s) * (1 / ∑ i, Real.exp (s i - top s))

theorem sum_exp_pos (s : Fin len → ℝ) : 0 < ∑ i, Real.exp (s i - top s) :=
  Finset.sum_pos (fun _ _ => Real.exp_pos _) ⟨⟨0, len_pos⟩, Finset.mem_univ _⟩

theorem softR_lt (s : Fin len → ℝ) (i j : Fin len) : softR s i < softR s j ↔ s i < s j := by
  unfold softR
  rw [mul_lt_mul_iff_left₀ (one_div_pos.2 (sum_exp_pos s)), Real.exp_lt_exp, sub_lt_sub_iff_right]

theorem divf_at (a c : FVec Ideal S16x1000000 .f32) (i : S16x1000000.Idx) : (Host.divf a c   : FVec Ideal S16x1000000 .f32) i = Ideal.div (a i) (c i) := rfl
theorem exp_at (a : FVec Ideal S16x1000000 .f32) (i : S16x1000000.Idx) : (Host.exp a   : FVec Ideal S16x1000000 .f32) i = Ideal.exp (a i) := rfl
theorem sub_at (a c : FVec Ideal S16x1000000 .f32) (i : S16x1000000.Idx) : (subf a c   : FVec Ideal S16x1000000 .f32) i = (show EReal from a i) - (show EReal from c i) := rfl
theorem negf_at (a : FVec Ideal S16x1000000 .f32) (i : S16x1000000.Idx) : (Host.negf a   : FVec Ideal S16x1000000 .f32) i = -(show EReal from a i) := rfl
theorem every_at (w : BitVec 32) (i : S16x1000000.Idx) : every (F := Ideal) w i = Ideal.ofBits .f32 w := rfl

theorem div_one_real (r : EReal) : Ideal.div r 1 = r := by
  rw [show (1 : EReal) = ((1 : ℝ) : EReal) from rfl, Ideal.div_coe one_ne_zero, one_div_one, EReal.coe_one, mul_one]
theorem exp_real (a c : ℝ) : Ideal.exp ((a : EReal) - (c : EReal)) = ((Real.exp (a - c) : ℝ) : EReal) := by
  rw [← EReal.coe_sub]; rfl

section
variable {x : Vec Ideal S16x1000000 .f32} {s : Fin 16 → Fin len → ℝ} (hx : Rows x s)
include hx

theorem scaled_at : Rows (scaled x) s := fun b k => by
  unfold scaled
  rw [divf_at, every_at, Ideal.ofBits_one_f32, hx b k]
  exact div_one_real _

theorem exps_at : Rows (exps x) fun b k => Real.exp (s b k - top (s b)) := fun b k => by
  show _ = ((Real.exp (s b k - top (s b)) : ℝ) : EReal)
  unfold exps
  rw [exp_at, sub_at, scaled_at hx b k, along_at, rowMax_at (scaled_at hx) b (top (s b)) (le_top' (s b)) (top_mem (s b))]
  exact exp_real _ _

theorem soft_at : Rows (soft x) fun b k => softR (s b) k := fun b k => by
  show _ = ((softR (s b) k : ℝ) : EReal)
  unfold soft softR
  rw [divf_at, exps_at hx b k, along_at, rowSum_at (exps_at hx) b, Ideal.div_coe (sum_exp_pos (s b)).ne', ← EReal.coe_mul]

end

/-! ## The descending order -/

/-- The comparator on real keys. -/
theorem comparator_real (a c : ℝ) (i j : BitVec 32) :
    (comparator_f32_i32_d1 (F := Ideal) ((a : EReal), i) ((c : EReal), j) == 1#1) = decide (a < c) := by
  have h0 : FloatOps.ofBits (F := Ideal) .f32 0x00000000#32 = ((0 : ℝ) : EReal) := Ideal.ofBits_zero_f32
  have hne : ∀ r : ℝ, FloatOps.cmpf (F := Ideal) (φ := .f32) .une (r : EReal) (r : EReal) = 0#1 := fun r => by
    show BitVec.ofBool (decide ((r : EReal) ≠ (r : EReal))) = 0#1
    rw [decide_eq_false (fun h => h rfl)]; rfl
  have hz : ∀ r : ℝ, Scalar.select (FloatOps.cmpf (F := Ideal) (φ := .f32) .oeq (r : EReal) ((0 : ℝ) : EReal)) ((0 : ℝ) : EReal) (r : EReal)
      = (r : EReal) := fun r => by
    rw [oeq_real, select_bit]
    split
    · next h => rw [h]
    · rfl
  unfold comparator_f32_i32_d1
  dsimp only
  rw [h0, hne, hne, hz, hz]
  show (BitVec.ofBool (decide ((a : EReal) < (c : EReal))) == 1#1) = _
  rw [decide_eq_decide.2 EReal.coe_lt_coe_iff]
  cases decide (a < c) <;> rfl

/-- A descending order of a row: greater scores first, equal ones by place. -/
def Desc (s : Fin len → ℝ) (σ : Equiv.Perm (Fin len)) : Prop :=
  ∀ i j, i < j → s (σ j) < s (σ i) ∨ (s (σ i) = s (σ j) ∧ σ i < σ j)

theorem Desc.antitone {s : Fin len → ℝ} {σ : Equiv.Perm (Fin len)} (h : Desc s σ) : Antitone (s ∘ σ) := fun i j hij => by
  rcases hij.lt_or_eq with q | q
  · rcases h i j q with r | r
    · exact r.le
    · exact r.1.ge
  · rw [q]

theorem Desc.top_eq {s : Fin len → ℝ} {σ : Equiv.Perm (Fin len)} (h : Desc s σ) : top s = onNat (s ∘ σ) 0 := by
  rw [onNat_lt _ 0 len_pos]
  apply le_antisymm
  · obtain ⟨k, hk⟩ := top_mem s
    have := h.antitone (show (⟨0, len_pos⟩ : Fin len) ≤ σ.symm k from Nat.zero_le _)
    rw [Function.comp_apply, Function.comp_apply, Equiv.apply_symm_apply, hk] at this
    exact this
  · exact le_top' s _

/-- The softmax in descending order is the specification's probability. -/
theorem Desc.soft_eq {s : Fin len → ℝ} {σ : Equiv.Perm (Fin len)} (h : Desc s σ) (k : Fin len) :
    softR s (σ k) = prob len (onNat (s ∘ σ)) k.val := by
  have he : ∀ i : Fin len, Real.exp (s (σ i) - top s) = expo len (onNat (s ∘ σ)) i.val := fun i => by
    unfold expo
    rw [if_pos i.isLt, h.top_eq, onNat_lt (s ∘ σ) i.val i.isLt]
    rfl
  have hs : ∑ i, Real.exp (s i - top s) = Cert.Spec.mass len (onNat (s ∘ σ)) := by
    unfold Cert.Spec.mass S
    rw [Finset.sum_range, ← Equiv.sum_comp σ]
    exact Finset.sum_congr rfl fun i _ => he i
  unfold softR prob
  rw [he k, hs]

/-- The reference's order of each row. -/
theorem order_at {x : Vec Ideal S16x1000000 .f32} {s : Fin 16 → Fin len → ℝ} (hx : Rows x s) (b : Fin 16) :
    ∃ σ : Equiv.Perm (Fin len), Desc (s b) σ ∧ ∀ k : Fin len, order x (ix2 b k) = BitVec.ofNat 32 (σ k).val := by
  obtain ⟨σ, hσ, hd⟩ := sorted_places fun k => -softR (s b) k
  refine ⟨σ, fun i j hij => ?_, fun k => ?_⟩
  · have e : softR (s b) (σ i) = softR (s b) (σ j) → s b (σ i) = s b (σ j) := fun q =>
      le_antisymm (not_lt.1 fun h => q.not_gt ((softR_lt (s b) _ _).2 h)) (not_lt.1 fun h => q.not_lt ((softR_lt (s b) _ _).2 h))
    rcases hd i j hij with q | q
    · exact .inl ((softR_lt (s b) _ _).1 (neg_lt_neg_iff.1 q))
    · exact .inr ⟨e (neg_inj.1 q.1), q.2⟩
  · have hal : ∀ m : Fin len, Shape.Idx.along (s := S16x1000000) (ix2 b k) 1 m = ix2 b m := fun m =>
      funext fun a => match a with | ⟨0, _⟩ => rfl | ⟨1, _⟩ => rfl
    have hkey : ∀ m m' : Fin len,
        (comparator_f32_i32_d1 (F := Ideal)
          (Host.negf (soft x) (Shape.Idx.along (s := S16x1000000) (ix2 b k) 1 m), iotaInDim S16x1000000 32 1 (Shape.Idx.along (s := S16x1000000) (ix2 b k) 1 m))
          (Host.negf (soft x) (Shape.Idx.along (s := S16x1000000) (ix2 b k) 1 m'), iotaInDim S16x1000000 32 1 (Shape.Idx.along (s := S16x1000000) (ix2 b k) 1 m')) == 1#1)
        = decide (-softR (s b) m < -softR (s b) m') := fun m m' => by
      have hn : ∀ m, Host.negf (soft x) (ix2 b m) = ((-softR (s b) m : ℝ) : EReal) := fun m => by
        rw [negf_at, soft_at hx b m, ← EReal.coe_neg]
      rw [hal, hal, hn, hn]
      exact comparator_real _ _ _ _
    unfold order Host.sort2
    rw [dif_pos (show 1 < S16x1000000.rank by decide)]
    exact (congrArg (fun R : Fin len → Fin len → Bool =>
        iotaInDim S16x1000000 32 1 (Shape.Idx.along (s := S16x1000000) (ix2 b k) 1 (sortedFrom R k)))
        (funext fun m => funext fun m' => hkey m m')).trans
      ((congrArg (fun m : Fin len => iotaInDim S16x1000000 32 1 (Shape.Idx.along (s := S16x1000000) (ix2 b k) 1 m)) (hσ k)).trans
        (congrArg (iotaInDim S16x1000000 32 1) (hal (σ k))))

/-! ## The rows read at their order -/

theorem toInt_word (n : ℕ) (h : n < 2 ^ 31) : (BitVec.ofNat 32 n).toInt = (n : ℤ) := by
  rw [BitVec.toInt_eq_toNat_cond, BitVec.toNat_ofNat, Nat.mod_eq_of_lt (by omega), if_pos (by omega)]

theorem fromEnd_at (i : IVec S16x1000000 32) (b : Fin 16) (k : Fin len) (m : ℕ) (hm : m < len) (hi : i (ix2 b k) = BitVec.ofNat 32 m) :
    fromEnd i (ix3 b k (0 : Fin 1)) = BitVec.ofNat 32 m := by
  have hm' : m < 1000000 := hm
  unfold fromEnd
  rw [shapeCast_apply _ _ _ (ix2 b k) (by
    rw [Shape.rowMajor_val_two, Shape.rowMajor_val_three]; show b.val * 1000000 + k.val = (b.val * 1000000 + k.val) * 1 + 0; omega)]
  show Scalar.select (IntOp.cmpi .slt (i (ix2 b k)) 0#32) (IntOp.addi (i (ix2 b k)) 1000000#32) (i (ix2 b k)) = _
  have hs : IntOp.cmpi .slt (BitVec.ofNat 32 m) 0#32 = 0#1 := by
    show BitVec.ofBool ((BitVec.ofNat 32 m).slt 0#32) = 0#1
    rw [BitVec.slt, toInt_word m (by omega), decide_eq_false (by show ¬((m : ℤ) < (0#32).toInt); rw [BitVec.toInt_zero]; omega)]; rfl
  rw [hi, hs]
  rfl

theorem fold_one (g : Fin 1 → BitVec 1) : Finset.fold IntOp.andi 1#1 g (Finset.univ : Finset (Fin 1)) = IntOp.andi (g 0) 1#1 := by
  rw [Finset.univ_unique, Finset.fold_singleton]; rfl

theorem inRow_at (i : IVec S16x1000000x1 32) (b : Fin 16) (k : Fin len) (m : ℕ) (hm : m < len) (hi : i (ix3 b k (0 : Fin 1)) = BitVec.ofNat 32 m) :
    inRow i (ix2 b k) = 1#1 := by
  have hm' : m < 1000000 := hm
  unfold inRow
  have hr : S16x1000000x1.Reduces [2] S16x1000000 := by decide
  refine (Host.reduce_eq_fold_single IntOp.andi _ _ reducesTo_S16x1000000x1_S16x1000000_d2 hr h_S_ (ix2 b k)).trans ?_
  have hl : ∀ q : Fin 1, hr.lift (ix2 b k) q = ix3 b k (0 : Fin 1) := fun q =>
    funext fun a => match a with | ⟨0, _⟩ => rfl | ⟨1, _⟩ => rfl | ⟨2, _⟩ => Subsingleton.elim (α := Fin 1) _ _
  refine (fold_one _).trans ?_
  show IntOp.andi (IntOp.andi (IntOp.cmpi .sge (i (hr.lift (ix2 b k) (0 : Fin 1))) 0#32)
    (IntOp.cmpi .sle (i (hr.lift (ix2 b k) (0 : Fin 1))) 999999#32)) 1#1 = 1#1
  rw [hl, hi]
  have h1 : IntOp.cmpi .sge (BitVec.ofNat 32 m) 0#32 = 1#1 := by
    show BitVec.ofBool ((0#32).sle (BitVec.ofNat 32 m)) = 1#1
    rw [BitVec.sle, toInt_word m (by omega), decide_eq_true (by rw [BitVec.toInt_zero]; omega)]; rfl
  have h2 : IntOp.cmpi .sle (BitVec.ofNat 32 m) 999999#32 = 1#1 := by
    show BitVec.ofBool ((BitVec.ofNat 32 m).sle (BitVec.ofNat 32 999999)) = 1#1
    rw [BitVec.sle, toInt_word m (by omega), toInt_word 999999 (by omega), decide_eq_true (by omega)]; rfl
  rw [h1, h2]
  rfl

theorem taken_at (q : Vec Ideal S16x1000000 .f32) (i : IVec S16x1000000 32) (b : Fin 16) (k m : Fin len) (hi : i (ix2 b k) = BitVec.ofNat 32 m.val) :
    taken q i (ix2 b k) = q (ix2 b m) := by
  have hf := fromEnd_at i b k m.val m.isLt hi
  unfold taken
  rw [select_apply, inRow_at _ b k m.val m.isLt hf, select_one]
  exact gather_row gather_S16x1000000_S16x1000000x1_S16x1000000_n_1_0_0_1_2_11_wf q (fromEnd i) b k m
    (by rw [hf]; exact toInt_word _ (by have : m.val < 1000000 := m.isLt; omega))

/-! ## The nucleus -/

theorem zero_word : ((0#32 : BitVec 32)).toInt = ((0 : ℕ) : ℤ) := rfl

/-- The first place always, the others while the running sum passes. -/
theorem keep_bit {f : ℕ → ℝ} {J : ℕ} (hJ : Passes f boundR J) (k : Fin len) :
    (if k = (⟨0, len_pos⟩ : Fin len) then (1#1 : BitVec 1)
      else FloatOps.cmpf (F := Ideal) (φ := .f32) .ole ((S f (k.val + 1) : ℝ) : EReal) (Ideal.ofBits .f32 0x3F666666#32)) = bit (k.val < J ∨ k.val = 0) := by
  by_cases h : k.val = 0
  · rw [if_pos (Fin.ext h), bit, decide_eq_true (Or.inr h)]; rfl
  · have hk : k.val < 1000000 := k.isLt
    have hlt : k.val < 1048576 := by omega
    have hb : Ideal.ofBits .f32 0x3F666666#32 = ((boundR : ℝ) : EReal) := bound_eq
    rw [if_neg fun q => h (congrArg Fin.val q), hb, ole_real]
    exact bit_congr ((hJ.iff k.val hlt).trans ⟨.inl, fun q => q.resolve_right h⟩)

section
variable {x : Vec Ideal S16x1000000 .f32} {s : Fin 16 → Fin len → ℝ} (hx : Rows x s) {σ : Fin 16 → Equiv.Perm (Fin len)}
  (hd : ∀ b, Desc (s b) (σ b)) (ho : ∀ b (k : Fin len), order x (ix2 b k) = BitVec.ofNat 32 (σ b k).val)
include hx hd ho

theorem down_at : Rows (down x) fun b k => prob len (onNat (s b ∘ σ b)) k.val := fun b k => by
  unfold down
  rw [taken_at (soft x) (order x) b k (σ b k) (ho b k), soft_at hx b (σ b k)]
  exact congrArg Real.toEReal ((hd b).soft_eq k)

theorem running_at : Rows (running (down x)) fun b k => S (prob len (onNat (s b ∘ σ b))) (k.val + 1) := fun b k => by
  show _ = ((S (prob len (onNat (s b ∘ σ b))) (k.val + 1) : ℝ) : EReal)
  unfold running
  exact window_row (A := 16) (N := 999999) (M := 1000000) rfl (down x) (fun b => prob len (onNat (s b ∘ σ b))) (down_at hx hd ho) _ (fun _ => Ideal.ofBits_zero_f32) _ _ b k

variable {J : Fin 16 → ℕ} (hJ : ∀ b, Passes (prob len (onNat (s b ∘ σ b))) boundR (J b))
include hJ

theorem keep_at (b : Fin 16) (k : Fin len) : keep x (ix2 b k) = bit (k.val < J b ∨ k.val = 0) := by
  unfold keep
  rw [set_column scatter_S16x1000000_S1_S16_0_1_1_0 rfl rfl (cmpf .ole (running (down x)) (every (F := Ideal) 0x3F666666#32))
    (broadcastInDim S1 ![] bcast_S_S1 (constantI S_ 32 0#32)) (broadcastInDim S16 ![] bcast_S_S16 (constantI S_ 1 1#1)) (1#1)
    (fun _ => rfl) (⟨0, len_pos⟩ : Fin len) zero_word b k, cmpf_apply, every_at, running_at hx hd ho b k]
  exact keep_bit (hJ b) k

theorem masked_at : Rows (masked x) fun b k => if k.val < J b ∨ k.val = 0 then prob len (onNat (s b ∘ σ b)) k.val else 0 := fun b k => by
  unfold masked
  rw [select_apply, keep_at hx hd ho hJ b k, select_bit, down_at hx hd ho b k]
  show (if _ then _ else Ideal.ofBits .f32 0x00000000#32) = _
  rw [Ideal.ofBits_zero_f32]
  dsimp only
  split <;> rfl

/-- The reference's second result. -/
theorem nucleus_at : Rows (nucleus x) fun b k => out len (onNat (s b ∘ σ b)) (J b) k.val := fun b k => by
  have hs : (∑ k : Fin len, if k.val < J b ∨ k.val = 0 then prob len (onNat (s b ∘ σ b)) k.val else 0)
      = max (S (prob len (onNat (s b ∘ σ b))) (J b)) (prob len (onNat (s b ∘ σ b)) 0) := by
    rw [← kept_sum len _ len_pos len_le (hJ b)]
    unfold S
    rw [Finset.sum_range]
  unfold nucleus
  rw [divf_at, masked_at hx hd ho hJ b k, along_at, rowSum_at (masked_at hx hd ho hJ) b, hs,
    Ideal.div_coe (kept_sum_pos len _ len_pos (J b)).ne', ← EReal.coe_mul]
  unfold out
  dsimp only
  split
  · rfl
  · rw [zero_mul]

end

end Cert.Ref
end
-- ==== Proof.RefRead.lean ====
/- What the reference's operations leave in its results. -/
module

public import proofs.«01_k».proof.Proof.RefTerms
public import Idealize.ShloMosaic.Lib.StableHlo.RunRead

@[expose] public section

set_option maxRecDepth 16384

noncomputable section

namespace Cert.Ref

open Cert.ReferenceIdeal Cert.ReferenceIdeal.Facts₀
open Idealize.ShloMosaic Idealize.SL.Sem Idealize.ShloMosaic.StableHlo Idealize.ShloMosaic.Tactic

variable {F : FTy → Type} [FloatOps F] [hF : Facts]

/-- The reference leaves the renormalised probabilities in its second result. -/
theorem read_nucleus (d : Dev nD) (W : Valuation τ sig (Elt F)) :
    after (mainLine (F := F) d).1 W (Proc.devRef .tc main_v26) = nucleus (W (Proc.devRef .tc main_arg0)) := by
  after_reads_simp
  simp only [TRef.ofBuf_toBuf]
  simp only [nucleus, masked, keep, running, down, taken, inRow, fromEnd, order, soft, exps, rowMax, scaled, rowSum, along, every]
  simp only [TRef.ofBuf, TRef.toBuf, TRef.of, cast_eq, id_eq]
  rfl

/-- The noise the reference draws, as its operations leave it. -/
def noise (d : Dev nD) (W : Valuation τ sig (Elt F)) : Vec F S16x1000000 .f32 :=
  after (mainLine (F := F) d).1 W (Proc.devRef .tc main_v38)

end Cert.Ref

end
-- ==== Proof.Value.lean ====
/- Both programs leave the same renormalised probabilities when every score is a finite number. -/
module

public import proofs.«01_k».proof.Defs
public import proofs.«01_k».proof.Proof.KernelValue
public import proofs.«01_k».proof.Proof.RefValue
public import proofs.«01_k».proof.Proof.RefRead

@[expose] public section

set_option maxRecDepth 16384

noncomputable section

namespace Cert.Value

open Idealize.ShloMosaic Idealize.ShloMosaic.ValueIdx Idealize.SL.Sem

/-- The facts the precondition states. -/
theorem preFacts : Cert.Pre_finite.Facts := ⟨by decide⟩

/-- A number whose absolute value is below infinity is real. -/
theorem real_of_abs (a : EReal) (h : Ideal.cmp .olt (max a (-a)) ⊤ = 1#1) : ∃ r : ℝ, a = (r : EReal) := by
  have h' : max a (-a) < ⊤ := by
    by_contra hn
    have : Ideal.cmp .olt (max a (-a)) ⊤ = 0#1 := by
      show BitVec.ofBool (decide (max a (-a) < ⊤)) = _
      rw [decide_eq_false hn]; rfl
    rw [this] at h
    exact absurd h (by decide)
  refine ⟨a.toReal, (EReal.coe_toReal (fun e => ?_) fun e => ?_).symm⟩
  · subst e; exact absurd (lt_of_le_of_lt (le_max_left _ _) h') (lt_irrefl _)
  · subst e; exact absurd (lt_of_le_of_lt (le_max_right _ _) h') (by simp)

/-- The precondition read: every score is a real number. -/
theorem finite_scores [Cert.Pre_finite.Facts] (x : FVec Ideal Cert.Pre_finite.S16x1000000 .f32)
    (h : Cert.Pre_finite.fn (F := Ideal) x = fun _ => 1#1) (i : Cert.Pre_finite.S16x1000000.Idx) : ∃ r : ℝ, x i = (r : EReal) := by
  have e : Ideal.cmp .olt (max (x i : EReal) (-(x i : EReal))) (Ideal.ofBits .f32 0x7F800000#32) = 1#1 := congrFun h i
  rw [Cert.Body.posInf_eq] at e
  exact real_of_abs _ e

/-- The two programs' renormalised probabilities are the same array. -/
theorem results_agree [Cert.ReferenceIdeal.Facts] [Cert.Pre_finite.Facts] (x : Vec Ideal Cert.KernelIdeal.S16x1000000 .f32)
    (h : Cert.Pre_finite.fn (F := Ideal) x = fun _ => 1#1) :
    Cert.KernelIdeal.Launch.trimmed (Cert.KernelIdeal.Launch.keptAll (Cert.KernelIdeal.Launch.padded x)) = Cert.Ref.nucleus x := by
  choose s hs using fun (b : Fin 16) (k : Fin 1000000) => finite_scores x h (ix2 b k)
  choose σ hd ho using fun b => Cert.Ref.order_at (x := x) (s := s) hs b
  choose J hJ using fun b => Cert.Spec.passes Cert.Ref.len (Cert.Body.onNat (s b ∘ σ b)) Cert.Ref.len_pos Cert.Ref.len_le
  funext i
  rw [eq_ix2 i]
  exact (Cert.KernelIdeal.Launch.kept_at x s hs σ (fun b => (hd b).antitone) J hJ _ _).trans
    (Cert.Ref.nucleus_at hs hd ho hJ _ _).symm

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's second result equals the reference's, as extended reals, when every score is finite. -/
theorem nucleus_equal [hK : Cert.KernelIdeal.Facts] [hR : Cert.ReferenceIdeal.Facts] [hP : Cert.Pre_finite.Facts] [hO : Cert.On_nucleus_only.Facts] :
    Cert.algebraic_KernelIdeal_ReferenceIdeal_on_nucleus_only_pre_finite := fun m g m' g' hpre harg => by
  refine ⟨fun c => m ((c.tc : Thread Cert.KernelIdeal.nD Cert.KernelIdeal.τ).loc Cert.KernelIdeal.main_v18),
    fun c => Cert.Ref.nucleus (m ((c.tc : Thread Cert.KernelIdeal.nD Cert.KernelIdeal.τ).loc Cert.KernelIdeal.main_arg0)), ?_, ?_⟩
  · refine (θ_run _ _ _).mono (fun r h c => ⟨fun i hi => absurd (show (0#1 : BitVec 1) = 1#1 from hi) (by decide), fun i _ => ?_, (h c).2.2⟩)
      (Cert.KernelIdeal.Launch.run m g)
    exact congrFun ((h c).2.1.trans (Cert.Value.results_agree _ (hpre c))) i
  · refine (θ_run _ _ _).mono (fun r h c => ⟨fun i hi => absurd (show (0#1 : BitVec 1) = 1#1 from hi) (by decide), fun i _ => ?_,
      (h c Cert.ReferenceIdeal.main_arg0).trans (Cert.ReferenceIdeal.main_arg m' c)⟩) (Cert.ReferenceIdeal.main_run m' g')
    exact congrFun ((h c Cert.ReferenceIdeal.main_v26).trans ((Cert.Ref.read_nucleus c _).trans (congrArg Cert.Ref.nucleus (harg c)))) i

theorem claim : Cert.Claim := ⟨Cert.Kernel.Gen.facts, Cert.KernelIdeal.Gen.facts, Cert.ReferenceIdeal.Gen.facts,
  Cert.Value.preFacts, ⟨by decide, by decide⟩,
  fun m g _ => Cert.Kernel.Gen.frame m g, fun m g _ => Cert.KernelIdeal.Gen.frame m g, fun m g _ => Cert.KernelIdeal.Gen.frame m g,
  fun m g _ => Cert.ReferenceIdeal.frame m g, fun m g _ => Cert.ReferenceIdeal.frame m g, trivial,
  @nucleus_equal Cert.KernelIdeal.Gen.facts Cert.ReferenceIdeal.Gen.facts Cert.Value.preFacts ⟨by decide, by decide⟩⟩

end Cert.Proof

end
